-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bits [hPre_bits : Cert.Pre_bits.Facts] (m : (ℓ : Loc Cert.KernelIdeal.nD Cert.KernelIdeal.τ Cert.KernelIdeal.sig) → Buf (Elt Ideal) ℓ) : Prop :=
  ∀ c : Dev Cert.KernelIdeal.nD,
    (Cert.Pre_bits.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bits [hPre_bits : Cert.Pre_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bits.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_bits [hKernelIdeal : Cert.KernelIdeal.Facts] [hPre_bits : Cert.Pre_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_bits [hReferenceIdeal : Cert.ReferenceIdeal.Facts] [hPre_bits : Cert.Pre_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_bits [hKernelIdeal : Cert.KernelIdeal.Facts] [hReferenceIdeal : Cert.ReferenceIdeal.Facts] [hPre_bits : Cert.Pre_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_bits : Cert.Pre_bits.Facts),
    quiescent_Kernel (hKernel := hKernel)
    ∧ quiescent_KernelIdeal (hKernelIdeal := hKernelIdeal)
    ∧ quiescent_KernelIdeal_pre_bits (hKernelIdeal := hKernelIdeal) (hPre_bits := hPre_bits)
    ∧ quiescent_ReferenceIdeal (hReferenceIdeal := hReferenceIdeal)
    ∧ quiescent_ReferenceIdeal_pre_bits (hReferenceIdeal := hReferenceIdeal) (hPre_bits := hPre_bits)
    ∧ preserves_Kernel_KernelIdeal
    ∧ algebraic_KernelIdeal_ReferenceIdeal_pre_bits (hKernelIdeal := hKernelIdeal) (hReferenceIdeal := hReferenceIdeal) (hPre_bits := hPre_bits)
-- ==== Pre_bits.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) : IVec S4096x512 1 :=
  let main_cst : FVec F S_ .f32 := constant S_ .f32 0x00000000#32
  let main_v0 : FVec F S4096x512 .f32 := broadcastInDim S4096x512 ![] bcast_S_S4096x512 main_cst
  let main_v1 : IVec S4096x512 1 := cmpf .oeq main_arg0 main_v0
  let main_cst_0 : FVec F S_ .f32 := constant S_ .f32 0x3F800000#32
  let main_v2 : FVec F S4096x512 .f32 := broadcastInDim S4096x512 ![] bcast_S_S4096x512 main_cst_0
  let main_v3 : IVec S4096x512 1 := cmpf .oeq main_arg0 main_v2
  let main_v4 : IVec S4096x512 1 := ori main_v1 main_v3
  main_v4
-- ==== Kernel.lean ====
abbrev S4096x512 : Shape := ⟨2, ![4096, 512]⟩
abbrev S512x32 : Shape := ⟨2, ![512, 32]⟩
abbrev S512x32x1 : Shape := ⟨3, ![512, 32, 1]⟩
abbrev S512x32x32 : Shape := ⟨3, ![512, 32, 32]⟩
abbrev S32 : Shape := ⟨1, ![32]⟩
abbrev S_ : Shape := ⟨0, ![]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 13
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x32, .i32⟩
  | .hbm, ⟨2, _⟩ => ⟨S512x32x1, .i32⟩
  | .hbm, ⟨3, _⟩ => ⟨S512x32x32, .i32⟩
  | .hbm, ⟨4, _⟩ => ⟨S32, .i32⟩
  | .hbm, ⟨5, _⟩ => ⟨S512x32x32, .i32⟩
  | .hbm, ⟨6, _⟩ => ⟨S512x32x32, .i32⟩
  | .hbm, ⟨7, _⟩ => ⟨S_, .i32⟩
  | .hbm, ⟨8, _⟩ => ⟨S512x32x32, .i32⟩
  | .hbm, ⟨9, _⟩ => ⟨S512x32x32, .i32⟩
  | .hbm, ⟨10, _⟩ => ⟨S512x1024, .i32⟩
  | .hbm, ⟨11, _⟩ => ⟨S512x1024, .bf16⟩
  | .hbm, ⟨12, _⟩ => ⟨S4096x1024, .f32⟩
  | .local _ .vmem, ⟨0, _⟩ => ⟨S2048x512, .f32⟩
  | .local _ .vmem, ⟨1, _⟩ => ⟨S2048x512, .f32⟩
  | .local _ .vmem, ⟨2, _⟩ => ⟨S512x1024, .bf16⟩
  | .local _ .vmem, ⟨3, _⟩ => ⟨S2048x1024, .f32⟩
  | .local _ .vmem, ⟨4, _⟩ => ⟨S2048x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x512 : Shape := ⟨2, ![4096, 512]⟩
abbrev S512x11 : Shape := ⟨2, ![512, 11]⟩
abbrev S523 : Shape := ⟨1, ![523]⟩
abbrev S10x1025 : Shape := ⟨2, ![10, 1025]⟩
abbrev S1024 : Shape := ⟨1, ![1024]⟩
abbrev S4096x11 : Shape := ⟨2, ![4096, 11]⟩
abbrev S_ : Shape := ⟨0, ![]⟩
abbrev S4096x523 : Shape := ⟨2, ![4096, 523]⟩
abbrev S4096x1024 : Shape := ⟨2, ![4096, 1024]⟩
abbrev S523x1 : Shape := ⟨2, ![523, 1]⟩
abbrev S4096x1 : Shape := ⟨2, ![4096, 1]⟩
abbrev S4096x1025 : Shape := ⟨2, ![4096, 1025]⟩
abbrev S1x1025 : Shape := ⟨2, ![1, 1025]⟩
abbrev S1025 : Shape := ⟨1, ![1025]⟩
abbrev S1025x1 : Shape := ⟨2, ![1025, 1]⟩
abbrev S1 : Shape := ⟨1, ![1]⟩
abbrev S1x1 : Shape := ⟨2, ![1, 1]⟩
abbrev S1024x1 : Shape := ⟨2, ![1024, 1]⟩

abbrev nBuf : Space → Nat
  | .hbm => 356
  | .vmem => 0
  | .smem => 0
  | _ => 0

abbrev hbmTy0_0 (i : Nat) : BufTy := match i % 128 with
  | 0 => ⟨S4096x512, .f32⟩
  | 1 => ⟨S512x11, .i32⟩
  | 2 => ⟨S523, .i32⟩
  | 3 => ⟨S10x1025, .i32⟩
  | 4 => ⟨S1024, .i32⟩
  | 5 => ⟨S1024, .i32⟩
  | 6 => ⟨S4096x512, .i32⟩
  | 7 => ⟨S4096x512, .f32⟩
  | 8 => ⟨S512x11, .f32⟩
  | 9 => ⟨S4096x11, .f32⟩
  | 10 => ⟨S4096x11, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S4096x11, .i32⟩
  | 18 => ⟨S4096x11, .i32⟩
  | 19 => ⟨S_, .i32⟩
  | 20 => ⟨S4096x11, .i32⟩
  | 21 => ⟨S4096x11, .i1⟩
  | 22 => ⟨S_, .i32⟩
  | 23 => ⟨S4096x11, .i32⟩
  | 24 => ⟨S4096x11, .i1⟩
  | 25 => ⟨S_, .i32⟩
  | 26 => ⟨S_, .i1⟩
  | 27 => ⟨S4096x11, .i1⟩
  | 28 => ⟨S4096x11, .i1⟩
  | 29 => ⟨S4096x11, .i1⟩
  | 30 => ⟨S4096x11, .i32⟩
  | 31 => ⟨S4096x11, .i32⟩
  | 32 => ⟨S4096x11, .i32⟩
  | 33 => ⟨S4096x523, .i32⟩
  | 34 => ⟨S_, .i32⟩
  | 35 => ⟨S4096x1024, .i32⟩
  | 36 => ⟨S_, .i32⟩
  | 37 => ⟨S523, .i32⟩
  | 38 => ⟨S523, .i1⟩
  | 39 => ⟨S_, .i32⟩
  | 40 => ⟨S523, .i32⟩
  | 41 => ⟨S523, .i32⟩
  | 42 => ⟨S523, .i32⟩
  | 43 => ⟨S523x1, .i32⟩
  | 44 => ⟨S4096x1024, .i32⟩
  | 45 => ⟨S_, .i32⟩
  | 46 => ⟨S4096x1, .i32⟩
  | 47 => ⟨S4096x1025, .i32⟩
  | 48 => ⟨S1x1025, .i32⟩
  | 49 => ⟨S1025, .i32⟩
  | 50 => ⟨S_, .i32⟩
  | 51 => ⟨S1025, .i32⟩
  | 52 => ⟨S1025, .i1⟩
  | 53 => ⟨S_, .i32⟩
  | 54 => ⟨S1025, .i32⟩
  | 55 => ⟨S1025, .i32⟩
  | 56 => ⟨S1025, .i32⟩
  | 57 => ⟨S1025x1, .i32⟩
  | 58 => ⟨S1, .i32⟩
  | 59 => ⟨S_, .i32⟩
  | 60 => ⟨S1025x1, .i32⟩
  | 61 => ⟨S1025x1, .i1⟩
  | 62 => ⟨S1x1, .i32⟩
  | 63 => ⟨S1025x1, .i32⟩
  | 64 => ⟨S1025x1, .i1⟩
  | 65 => ⟨S1025x1, .i1⟩
  | 66 => ⟨S_, .i1⟩
  | 67 => ⟨S1025, .i1⟩
  | 68 => ⟨S4096x1025, .i32⟩
  | 69 => ⟨S4096x1025, .i1⟩
  | 70 => ⟨S_, .i32⟩
  | 71 => ⟨S4096x1025, .i32⟩
  | 72 => ⟨S4096x1025, .i32⟩
  | 73 => ⟨S4096x1025, .i32⟩
  | 74 => ⟨S1x1025, .i32⟩
  | 75 => ⟨S1025, .i32⟩
  | 76 => ⟨S_, .i32⟩
  | 77 => ⟨S1025, .i32⟩
  | 78 => ⟨S1025, .i1⟩
  | 79 => ⟨S_, .i32⟩
  | 80 => ⟨S1025, .i32⟩
  | 81 => ⟨S1025, .i32⟩
  | 82 => ⟨S1025, .i32⟩
  | 83 => ⟨S1025x1, .i32⟩
  | 84 => ⟨S1, .i32⟩
  | 85 => ⟨S_, .i32⟩
  | 86 => ⟨S1025x1, .i32⟩
  | 87 => ⟨S1025x1, .i1⟩
  | 88 => ⟨S1x1, .i32⟩
  | 89 => ⟨S1025x1, .i32⟩
  | 90 => ⟨S1025x1, .i1⟩
  | 91 => ⟨S1025x1, .i1⟩
  | 92 => ⟨S_, .i1⟩
  | 93 => ⟨S1025, .i1⟩
  | 94 => ⟨S4096x1025, .i32⟩
  | 95 => ⟨S4096x1025, .i1⟩
  | 96 => ⟨S_, .i32⟩
  | 97 => ⟨S4096x1025, .i32⟩
  | 98 => ⟨S4096x1025, .i32⟩
  | 99 => ⟨S4096x1025, .i32⟩
  | 100 => ⟨S1x1025, .i32⟩
  | 101 => ⟨S1025, .i32⟩
  | 102 => ⟨S_, .i32⟩
  | 103 => ⟨S1025, .i32⟩
  | 104 => ⟨S1025, .i1⟩
  | 105 => ⟨S_, .i32⟩
  | 106 => ⟨S1025, .i32⟩
  | 107 => ⟨S1025, .i32⟩
  | 108 => ⟨S1025, .i32⟩
  | 109 => ⟨S1025x1, .i32⟩
  | 110 => ⟨S1, .i32⟩
  | 111 => ⟨S_, .i32⟩
  | 112 => ⟨S1025x1, .i32⟩
  | 113 => ⟨S1025x1, .i1⟩
  | 114 => ⟨S1x1, .i32⟩
  | 115 => ⟨S1025x1, .i32⟩
  | 116 => ⟨S1025x1, .i1⟩
  | 117 => ⟨S1025x1, .i1⟩
  | 118 => ⟨S_, .i1⟩
  | 119 => ⟨S1025, .i1⟩
  | 120 => ⟨S4096x1025, .i32⟩
  | 121 => ⟨S4096x1025, .i1⟩
  | 122 => ⟨S_, .i32⟩
  | 123 => ⟨S4096x1025, .i32⟩
  | 124 => ⟨S4096x1025, .i32⟩
  | 125 => ⟨S4096x1025, .i32⟩
  | 126 => ⟨S1x1025, .i32⟩
  | 127 => ⟨S1025, .i32⟩
  | _ => ⟨S4096x512, .f32⟩

abbrev hbmTy0_1 (i : Nat) : BufTy := match i % 128 with
  | 0 => ⟨S_, .i32⟩
  | 1 => ⟨S1025, .i32⟩
  | 2 => ⟨S1025, .i1⟩
  | 3 => ⟨S_, .i32⟩
  | 4 => ⟨S1025, .i32⟩
  | 5 => ⟨S1025, .i32⟩
  | 6 => ⟨S1025, .i32⟩
  | 7 => ⟨S1025x1, .i32⟩
  | 8 => ⟨S1, .i32⟩
  | 9 => ⟨S_, .i32⟩
  | 10 => ⟨S1025x1, .i32⟩
  | 11 => ⟨S1025x1, .i1⟩
  | 12 => ⟨S1x1, .i32⟩
  | 13 => ⟨S1025x1, .i32⟩
  | 14 => ⟨S1025x1, .i1⟩
  | 15 => ⟨S1025x1, .i1⟩
  | 16 => ⟨S_, .i1⟩
  | 17 => ⟨S1025, .i1⟩
  | 18 => ⟨S4096x1025, .i32⟩
  | 19 => ⟨S4096x1025, .i1⟩
  | 20 => ⟨S_, .i32⟩
  | 21 => ⟨S4096x1025, .i32⟩
  | 22 => ⟨S4096x1025, .i32⟩
  | 23 => ⟨S4096x1025, .i32⟩
  | 24 => ⟨S1x1025, .i32⟩
  | 25 => ⟨S1025, .i32⟩
  | 26 => ⟨S_, .i32⟩
  | 27 => ⟨S1025, .i32⟩
  | 28 => ⟨S1025, .i1⟩
  | 29 => ⟨S_, .i32⟩
  | 30 => ⟨S1025, .i32⟩
  | 31 => ⟨S1025, .i32⟩
  | 32 => ⟨S1025, .i32⟩
  | 33 => ⟨S1025x1, .i32⟩
  | 34 => ⟨S1, .i32⟩
  | 35 => ⟨S_, .i32⟩
  | 36 => ⟨S1025x1, .i32⟩
  | 37 => ⟨S1025x1, .i1⟩
  | 38 => ⟨S1x1, .i32⟩
  | 39 => ⟨S1025x1, .i32⟩
  | 40 => ⟨S1025x1, .i1⟩
  | 41 => ⟨S1025x1, .i1⟩
  | 42 => ⟨S_, .i1⟩
  | 43 => ⟨S1025, .i1⟩
  | 44 => ⟨S4096x1025, .i32⟩
  | 45 => ⟨S4096x1025, .i1⟩
  | 46 => ⟨S_, .i32⟩
  | 47 => ⟨S4096x1025, .i32⟩
  | 48 => ⟨S4096x1025, .i32⟩
  | 49 => ⟨S4096x1025, .i32⟩
  | 50 => ⟨S1x1025, .i32⟩
  | 51 => ⟨S1025, .i32⟩
  | 52 => ⟨S_, .i32⟩
  | 53 => ⟨S1025, .i32⟩
  | 54 => ⟨S1025, .i1⟩
  | 55 => ⟨S_, .i32⟩
  | 56 => ⟨S1025, .i32⟩
  | 57 => ⟨S1025, .i32⟩
  | 58 => ⟨S1025, .i32⟩
  | 59 => ⟨S1025x1, .i32⟩
  | 60 => ⟨S1, .i32⟩
  | 61 => ⟨S_, .i32⟩
  | 62 => ⟨S1025x1, .i32⟩
  | 63 => ⟨S1025x1, .i1⟩
  | 64 => ⟨S1x1, .i32⟩
  | 65 => ⟨S1025x1, .i32⟩
  | 66 => ⟨S1025x1, .i1⟩
  | 67 => ⟨S1025x1, .i1⟩
  | 68 => ⟨S_, .i1⟩
  | 69 => ⟨S1025, .i1⟩
  | 70 => ⟨S4096x1025, .i32⟩
  | 71 => ⟨S4096x1025, .i1⟩
  | 72 => ⟨S_, .i32⟩
  | 73 => ⟨S4096x1025, .i32⟩
  | 74 => ⟨S4096x1025, .i32⟩
  | 75 => ⟨S4096x1025, .i32⟩
  | 76 => ⟨S1x1025, .i32⟩
  | 77 => ⟨S1025, .i32⟩
  | 78 => ⟨S_, .i32⟩
  | 79 => ⟨S1025, .i32⟩
  | 80 => ⟨S1025, .i1⟩
  | 81 => ⟨S_, .i32⟩
  | 82 => ⟨S1025, .i32⟩
  | 83 => ⟨S1025, .i32⟩
  | 84 => ⟨S1025, .i32⟩
  | 85 => ⟨S1025x1, .i32⟩
  | 86 => ⟨S1, .i32⟩
  | 87 => ⟨S_, .i32⟩
  | 88 => ⟨S1025x1, .i32⟩
  | 89 => ⟨S1025x1, .i1⟩
  | 90 => ⟨S1x1, .i32⟩
  | 91 => ⟨S1025x1, .i32⟩
  | 92 => ⟨S1025x1, .i1⟩
  | 93 => ⟨S1025x1, .i1⟩
  | 94 => ⟨S_, .i1⟩
  | 95 => ⟨S1025, .i1⟩
  | 96 => ⟨S4096x1025, .i32⟩
  | 97 => ⟨S4096x1025, .i1⟩
  | 98 => ⟨S_, .i32⟩
  | 99 => ⟨S4096x1025, .i32⟩
  | 100 => ⟨S4096x1025, .i32⟩
  | 101 => ⟨S4096x1025, .i32⟩
  | 102 => ⟨S1x1025, .i32⟩
  | 103 => ⟨S1025, .i32⟩
  | 104 => ⟨S_, .i32⟩
  | 105 => ⟨S1025, .i32⟩
  | 106 => ⟨S1025, .i1⟩
  | 107 => ⟨S_, .i32⟩
  | 108 => ⟨S1025, .i32⟩
  | 109 => ⟨S1025, .i32⟩
  | 110 => ⟨S1025, .i32⟩
  | 111 => ⟨S1025x1, .i32⟩
  | 112 => ⟨S1, .i32⟩
  | 113 => ⟨S_, .i32⟩
  | 114 => ⟨S1025x1, .i32⟩
  | 115 => ⟨S1025x1, .i1⟩
  | 116 => ⟨S1x1, .i32⟩
  | 117 => ⟨S1025x1, .i32⟩
  | 118 => ⟨S1025x1, .i1⟩
  | 119 => ⟨S1025x1, .i1⟩
  | 120 => ⟨S_, .i1⟩
  | 121 => ⟨S1025, .i1⟩
  | 122 => ⟨S4096x1025, .i32⟩
  | 123 => ⟨S4096x1025, .i1⟩
  | 124 => ⟨S_, .i32⟩
  | 125 => ⟨S4096x1025, .i32⟩
  | 126 => ⟨S4096x1025, .i32⟩
  | 127 => ⟨S4096x1025, .i32⟩
  | _ => ⟨S4096x512, .f32⟩

abbrev hbmTy0_2 (i : Nat) : BufTy := match i % 128 with
  | 0 => ⟨S1x1025, .i32⟩
  | 1 => ⟨S1025, .i32⟩
  | 2 => ⟨S_, .i32⟩
  | 3 => ⟨S1025, .i32⟩
  | 4 => ⟨S1025, .i1⟩
  | 5 => ⟨S_, .i32⟩
  | 6 => ⟨S1025, .i32⟩
  | 7 => ⟨S1025, .i32⟩
  | 8 => ⟨S1025, .i32⟩
  | 9 => ⟨S1025x1, .i32⟩
  | 10 => ⟨S1, .i32⟩
  | 11 => ⟨S_, .i32⟩
  | 12 => ⟨S1025x1, .i32⟩
  | 13 => ⟨S1025x1, .i1⟩
  | 14 => ⟨S1x1, .i32⟩
  | 15 => ⟨S1025x1, .i32⟩
  | 16 => ⟨S1025x1, .i1⟩
  | 17 => ⟨S1025x1, .i1⟩
  | 18 => ⟨S_, .i1⟩
  | 19 => ⟨S1025, .i1⟩
  | 20 => ⟨S4096x1025, .i32⟩
  | 21 => ⟨S4096x1025, .i1⟩
  | 22 => ⟨S_, .i32⟩
  | 23 => ⟨S4096x1025, .i32⟩
  | 24 => ⟨S4096x1025, .i32⟩
  | 25 => ⟨S4096x1025, .i32⟩
  | 26 => ⟨S1x1025, .i32⟩
  | 27 => ⟨S1025, .i32⟩
  | 28 => ⟨S_, .i32⟩
  | 29 => ⟨S1025, .i32⟩
  | 30 => ⟨S1025, .i1⟩
  | 31 => ⟨S_, .i32⟩
  | 32 => ⟨S1025, .i32⟩
  | 33 => ⟨S1025, .i32⟩
  | 34 => ⟨S1025, .i32⟩
  | 35 => ⟨S1025x1, .i32⟩
  | 36 => ⟨S1, .i32⟩
  | 37 => ⟨S_, .i32⟩
  | 38 => ⟨S1025x1, .i32⟩
  | 39 => ⟨S1025x1, .i1⟩
  | 40 => ⟨S1x1, .i32⟩
  | 41 => ⟨S1025x1, .i32⟩
  | 42 => ⟨S1025x1, .i1⟩
  | 43 => ⟨S1025x1, .i1⟩
  | 44 => ⟨S_, .i1⟩
  | 45 => ⟨S1025, .i1⟩
  | 46 => ⟨S4096x1025, .i32⟩
  | 47 => ⟨S4096x1025, .i1⟩
  | 48 => ⟨S_, .i32⟩
  | 49 => ⟨S4096x1025, .i32⟩
  | 50 => ⟨S4096x1025, .i32⟩
  | 51 => ⟨S4096x1025, .i32⟩
  | 52 => ⟨S4096x1024, .i32⟩
  | 53 => ⟨S_, .i32⟩
  | 54 => ⟨S1024, .i32⟩
  | 55 => ⟨S1024, .i1⟩
  | 56 => ⟨S_, .i32⟩
  | 57 => ⟨S1024, .i32⟩
  | 58 => ⟨S1024, .i32⟩
  | 59 => ⟨S1024, .i32⟩
  | 60 => ⟨S1024x1, .i32⟩
  | 61 => ⟨S1, .i32⟩
  | 62 => ⟨S_, .i32⟩
  | 63 => ⟨S1024x1, .i32⟩
  | 64 => ⟨S1024x1, .i1⟩
  | 65 => ⟨S1x1, .i32⟩
  | 66 => ⟨S1024x1, .i32⟩
  | 67 => ⟨S1024x1, .i1⟩
  | 68 => ⟨S1024x1, .i1⟩
  | 69 => ⟨S_, .i1⟩
  | 70 => ⟨S1024, .i1⟩
  | 71 => ⟨S4096x1024, .i32⟩
  | 72 => ⟨S4096x1024, .i1⟩
  | 73 => ⟨S_, .i32⟩
  | 74 => ⟨S4096x1024, .i32⟩
  | 75 => ⟨S4096x1024, .i32⟩
  | 76 => ⟨S_, .i32⟩
  | 77 => ⟨S1024, .i32⟩
  | 78 => ⟨S1024, .i1⟩
  | 79 => ⟨S_, .i32⟩
  | 80 => ⟨S1024, .i32⟩
  | 81 => ⟨S1024, .i32⟩
  | 82 => ⟨S1024, .i32⟩
  | 83 => ⟨S1024x1, .i32⟩
  | 84 => ⟨S1, .i32⟩
  | 85 => ⟨S_, .i32⟩
  | 86 => ⟨S1024x1, .i32⟩
  | 87 => ⟨S1024x1, .i1⟩
  | 88 => ⟨S1x1, .i32⟩
  | 89 => ⟨S1024x1, .i32⟩
  | 90 => ⟨S1024x1, .i1⟩
  | 91 => ⟨S1024x1, .i1⟩
  | 92 => ⟨S_, .i1⟩
  | 93 => ⟨S1024, .i1⟩
  | 94 => ⟨S4096x1024, .i32⟩
  | 95 => ⟨S4096x1024, .i1⟩
  | 96 => ⟨S_, .i32⟩
  | 97 => ⟨S4096x1024, .i32⟩
  | 98 => ⟨S4096x1024, .i32⟩
  | 99 => ⟨S4096x1024, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v5 : Ref sig .tc := ⟨.hbm, 32, rfl⟩
abbrev main_v6 : Ref sig .tc := ⟨.hbm, 33, rfl⟩
abbrev main_c_5 : Ref sig .tc := ⟨.hbm, 34, rfl⟩
abbrev main_v7 : Ref sig .tc := ⟨.hbm, 35, rfl⟩
abbrev main_c_6 : Ref sig .tc := ⟨.hbm, 36, rfl⟩
abbrev main_v8 : Ref sig .tc := ⟨.hbm, 37, rfl⟩
abbrev main_v9 : Ref sig .tc := ⟨.hbm, 38, rfl⟩
abbrev main_c_7 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_8 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_c_4 : Ref sig .tc := ⟨.hbm, 70, rfl⟩
abbrev main_call1_v15 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_c_4 : Ref sig .tc := ⟨.hbm, 96, rfl⟩
abbrev main_call2_v15 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_c_4 : Ref sig .tc := ⟨.hbm, 122, rfl⟩
abbrev main_call3_v15 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_call4_c : Ref sig .tc := ⟨.hbm, 128, rfl⟩
abbrev main_call4_v0 : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_c_1 : Ref sig .tc := ⟨.hbm, 136, rfl⟩
abbrev main_call4_c_2 : Ref sig .tc := ⟨.hbm, 137, rfl⟩
abbrev main_call4_v6 : Ref sig .tc := ⟨.hbm, 138, rfl⟩
abbrev main_call4_v7 : Ref sig .tc := ⟨.hbm, 139, rfl⟩
abbrev main_call4_v8 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_c_3 : Ref sig .tc := ⟨.hbm, 144, rfl⟩
abbrev main_call4_v12 : Ref sig .tc := ⟨.hbm, 145, rfl⟩
abbrev main_call4_v13 : Ref sig .tc := ⟨.hbm, 146, rfl⟩
abbrev main_call4_v14 : Ref sig .tc := ⟨.hbm, 147, rfl⟩
abbrev main_call4_c_4 : Ref sig .tc := ⟨.hbm, 148, rfl⟩
abbrev main_call4_v15 : Ref sig .tc := ⟨.hbm, 149, rfl⟩
abbrev main_v31 : Ref sig .tc := ⟨.hbm, 150, rfl⟩
abbrev main_v32 : Ref sig .tc := ⟨.hbm, 151, rfl⟩
abbrev main_v33 : Ref sig .tc := ⟨.hbm, 152, rfl⟩
abbrev main_v34 : Ref sig .tc := ⟨.hbm, 153, rfl⟩
abbrev main_call5_c : Ref sig .tc := ⟨.hbm, 154, rfl⟩
abbrev main_call5_v0 : Ref sig .tc := ⟨.hbm, 155, rfl⟩
abbrev main_call5_v1 : Ref sig .tc := ⟨.hbm, 156, rfl⟩
abbrev main_call5_c_0 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_call5_v5 : Ref sig .tc := ⟨.hbm, 161, rfl⟩
abbrev main_call5_c_1 : Ref sig .tc := ⟨.hbm, 162, rfl⟩
abbrev main_call5_c_2 : Ref sig .tc := ⟨.hbm, 163, rfl⟩
abbrev main_call5_v6 : Ref sig .tc := ⟨.hbm, 164, rfl⟩
abbrev main_call5_v7 : Ref sig .tc := ⟨.hbm, 165, rfl⟩
abbrev main_call5_v8 : Ref sig .tc := ⟨.hbm, 166, rfl⟩
abbrev main_call5_v9 : Ref sig .tc := ⟨.hbm, 167, rfl⟩
abbrev main_call5_v10 : Ref sig .tc := ⟨.hbm, 168, rfl⟩
abbrev main_call5_v11 : Ref sig .tc := ⟨.hbm, 169, rfl⟩
abbrev main_call5_c_3 : Ref sig .tc := ⟨.hbm, 170, rfl⟩
abbrev main_call5_v12 : Ref sig .tc := ⟨.hbm, 171, rfl⟩
abbrev main_call5_v13 : Ref sig .tc := ⟨.hbm, 172, rfl⟩
abbrev main_call5_v14 : Ref sig .tc := ⟨.hbm, 173, rfl⟩
abbrev main_call5_c_4 : Ref sig .tc := ⟨.hbm, 174, rfl⟩
abbrev main_call5_v15 : Ref sig .tc := ⟨.hbm, 175, rfl⟩
abbrev main_v35 : Ref sig .tc := ⟨.hbm, 176, rfl⟩
abbrev main_v36 : Ref sig .tc := ⟨.hbm, 177, rfl⟩
abbrev main_v37 : Ref sig .tc := ⟨.hbm, 178, rfl⟩
abbrev main_v38 : Ref sig .tc := ⟨.hbm, 179, rfl⟩
abbrev main_call6_c : Ref sig .tc := ⟨.hbm, 180, rfl⟩
abbrev main_call6_v0 : Ref sig .tc := ⟨.hbm, 181, rfl⟩
abbrev main_call6_v1 : Ref sig .tc := ⟨.hbm, 182, rfl⟩
abbrev main_call6_c_0 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_call6_v5 : Ref sig .tc := ⟨.hbm, 187, rfl⟩
abbrev main_call6_c_1 : Ref sig .tc := ⟨.hbm, 188, rfl⟩
abbrev main_call6_c_2 : Ref sig .tc := ⟨.hbm, 189, rfl⟩
abbrev main_call6_v6 : Ref sig .tc := ⟨.hbm, 190, rfl⟩
abbrev main_call6_v7 : Ref sig .tc := ⟨.hbm, 191, rfl⟩
abbrev main_call6_v8 : Ref sig .tc := ⟨.hbm, 192, rfl⟩
abbrev main_call6_v9 : Ref sig .tc := ⟨.hbm, 193, rfl⟩
abbrev main_call6_v10 : Ref sig .tc := ⟨.hbm, 194, rfl⟩
abbrev main_call6_v11 : Ref sig .tc := ⟨.hbm, 195, rfl⟩
abbrev main_call6_c_3 : Ref sig .tc := ⟨.hbm, 196, rfl⟩
abbrev main_call6_v12 : Ref sig .tc := ⟨.hbm, 197, rfl⟩
abbrev main_call6_v13 : Ref sig .tc := ⟨.hbm, 198, rfl⟩
abbrev main_call6_v14 : Ref sig .tc := ⟨.hbm, 199, rfl⟩
abbrev main_call6_c_4 : Ref sig .tc := ⟨.hbm, 200, rfl⟩
abbrev main_call6_v15 : Ref sig .tc := ⟨.hbm, 201, rfl⟩
abbrev main_v39 : Ref sig .tc := ⟨.hbm, 202, rfl⟩
abbrev main_v40 : Ref sig .tc := ⟨.hbm, 203, rfl⟩
abbrev main_v41 : Ref sig .tc := ⟨.hbm, 204, rfl⟩
abbrev main_v42 : Ref sig .tc := ⟨.hbm, 205, rfl⟩
abbrev main_call7_c : Ref sig .tc := ⟨.hbm, 206, rfl⟩
abbrev main_call7_v0 : Ref sig .tc := ⟨.hbm, 207, rfl⟩
abbrev main_call7_v1 : Ref sig .tc := ⟨.hbm, 208, rfl⟩
abbrev main_call7_c_0 : Ref sig .tc := ⟨.hbm, 209, rfl⟩
abbrev main_call7_v2 : Ref sig .tc := ⟨.hbm, 210, rfl⟩
abbrev main_call7_v3 : Ref sig .tc := ⟨.hbm, 211, rfl⟩
abbrev main_call7_v4 : Ref sig .tc := ⟨.hbm, 212, rfl⟩
abbrev main_call7_v5 : Ref sig .tc := ⟨.hbm, 213, rfl⟩
abbrev main_call7_c_1 : Ref sig .tc := ⟨.hbm, 214, rfl⟩
abbrev main_call7_c_2 : Ref sig .tc := ⟨.hbm, 215, rfl⟩
abbrev main_call7_v6 : Ref sig .tc := ⟨.hbm, 216, rfl⟩
abbrev main_call7_v7 : Ref sig .tc := ⟨.hbm, 217, rfl⟩
abbrev main_call7_v8 : Ref sig .tc := ⟨.hbm, 218, rfl⟩
abbrev main_call7_v9 : Ref sig .tc := ⟨.hbm, 219, rfl⟩
abbrev main_call7_v10 : Ref sig .tc := ⟨.hbm, 220, rfl⟩
abbrev main_call7_v11 : Ref sig .tc := ⟨.hbm, 221, rfl⟩
abbrev main_call7_c_3 : Ref sig .tc := ⟨.hbm, 222, rfl⟩
abbrev main_call7_v12 : Ref sig .tc := ⟨.hbm, 223, rfl⟩
abbrev main_call7_v13 : Ref sig .tc := ⟨.hbm, 224, rfl⟩
abbrev main_call7_v14 : Ref sig .tc := ⟨.hbm, 225, rfl⟩
abbrev main_call7_c_4 : Ref sig .tc := ⟨.hbm, 226, rfl⟩
abbrev main_call7_v15 : Ref sig .tc := ⟨.hbm, 227, rfl⟩
abbrev main_v43 : Ref sig .tc := ⟨.hbm, 228, rfl⟩
abbrev main_v44 : Ref sig .tc := ⟨.hbm, 229, rfl⟩
abbrev main_v45 : Ref sig .tc := ⟨.hbm, 230, rfl⟩
abbrev main_v46 : Ref sig .tc := ⟨.hbm, 231, rfl⟩
abbrev main_call8_c : Ref sig .tc := ⟨.hbm, 232, rfl⟩
abbrev main_call8_v0 : Ref sig .tc := ⟨.hbm, 233, rfl⟩
abbrev main_call8_v1 : Ref sig .tc := ⟨.hbm, 234, rfl⟩
abbrev main_call8_c_0 : Ref sig .tc := ⟨.hbm, 235, rfl⟩
abbrev main_call8_v2 : Ref sig .tc := ⟨.hbm, 236, rfl⟩
abbrev main_call8_v3 : Ref sig .tc := ⟨.hbm, 237, rfl⟩
abbrev main_call8_v4 : Ref sig .tc := ⟨.hbm, 238, rfl⟩
abbrev main_call8_v5 : Ref sig .tc := ⟨.hbm, 239, rfl⟩
abbrev main_call8_c_1 : Ref sig .tc := ⟨.hbm, 240, rfl⟩
abbrev main_call8_c_2 : Ref sig .tc := ⟨.hbm, 241, rfl⟩
abbrev main_call8_v6 : Ref sig .tc := ⟨.hbm, 242, rfl⟩
abbrev main_call8_v7 : Ref sig .tc := ⟨.hbm, 243, rfl⟩
abbrev main_call8_v8 : Ref sig .tc := ⟨.hbm, 244, rfl⟩
abbrev main_call8_v9 : Ref sig .tc := ⟨.hbm, 245, rfl⟩
abbrev main_call8_v10 : Ref sig .tc := ⟨.hbm, 246, rfl⟩
abbrev main_call8_v11 : Ref sig .tc := ⟨.hbm, 247, rfl⟩
abbrev main_call8_c_3 : Ref sig .tc := ⟨.hbm, 248, rfl⟩
abbrev main_call8_v12 : Ref sig .tc := ⟨.hbm, 249, rfl⟩
abbrev main_call8_v13 : Ref sig .tc := ⟨.hbm, 250, rfl⟩
abbrev main_call8_v14 : Ref sig .tc := ⟨.hbm, 251, rfl⟩
abbrev main_call8_c_4 : Ref sig .tc := ⟨.hbm, 252, rfl⟩
abbrev main_call8_v15 : Ref sig .tc := ⟨.hbm, 253, rfl⟩
abbrev main_v47 : Ref sig .tc := ⟨.hbm, 254, rfl⟩
abbrev main_v48 : Ref sig .tc := ⟨.hbm, 255, rfl⟩
abbrev main_v49 : Ref sig .tc := ⟨.hbm, 256, rfl⟩
abbrev main_v50 : Ref sig .tc := ⟨.hbm, 257, rfl⟩
abbrev main_call9_c : Ref sig .tc := ⟨.hbm, 258, rfl⟩
abbrev main_call9_v0 : Ref sig .tc := ⟨.hbm, 259, rfl⟩
abbrev main_call9_v1 : Ref sig .tc := ⟨.hbm, 260, rfl⟩
abbrev main_call9_c_0 : Ref sig .tc := ⟨.hbm, 261, rfl⟩
abbrev main_call9_v2 : Ref sig .tc := ⟨.hbm, 262, rfl⟩
abbrev main_call9_v3 : Ref sig .tc := ⟨.hbm, 263, rfl⟩
abbrev main_call9_v4 : Ref sig .tc := ⟨.hbm, 264, rfl⟩
abbrev main_call9_v5 : Ref sig .tc := ⟨.hbm, 265, rfl⟩
abbrev main_call9_c_1 : Ref sig .tc := ⟨.hbm, 266, rfl⟩
abbrev main_call9_c_2 : Ref sig .tc := ⟨.hbm, 267, rfl⟩
abbrev main_call9_v6 : Ref sig .tc := ⟨.hbm, 268, rfl⟩
abbrev main_call9_v7 : Ref sig .tc := ⟨.hbm, 269, rfl⟩
abbrev main_call9_v8 : Ref sig .tc := ⟨.hbm, 270, rfl⟩
abbrev main_call9_v9 : Ref sig .tc := ⟨.hbm, 271, rfl⟩
abbrev main_call9_v10 : Ref sig .tc := ⟨.hbm, 272, rfl⟩
abbrev main_call9_v11 : Ref sig .tc := ⟨.hbm, 273, rfl⟩
abbrev main_call9_c_3 : Ref sig .tc := ⟨.hbm, 274, rfl⟩
abbrev main_call9_v12 : Ref sig .tc := ⟨.hbm, 275, rfl⟩
abbrev main_call9_v13 : Ref sig .tc := ⟨.hbm, 276, rfl⟩
abbrev main_call9_v14 : Ref sig .tc := ⟨.hbm, 277, rfl⟩
abbrev main_call9_c_4 : Ref sig .tc := ⟨.hbm, 278, rfl⟩
abbrev main_call9_v15 : Ref sig .tc := ⟨.hbm, 279, rfl⟩
abbrev main_v51 : Ref sig .tc := ⟨.hbm, 280, rfl⟩
abbrev main_v52 : Ref sig .tc := ⟨.hbm, 281, rfl⟩
abbrev main_v53 : Ref sig .tc := ⟨.hbm, 282, rfl⟩
abbrev main_v54 : Ref sig .tc := ⟨.hbm, 283, rfl⟩
abbrev main_call10_c : Ref sig .tc := ⟨.hbm, 284, rfl⟩
abbrev main_call10_v0 : Ref sig .tc := ⟨.hbm, 285, rfl⟩
abbrev main_call10_v1 : Ref sig .tc := ⟨.hbm, 286, rfl⟩
abbrev main_call10_c_0 : Ref sig .tc := ⟨.hbm, 287, rfl⟩
abbrev main_call10_v2 : Ref sig .tc := ⟨.hbm, 288, rfl⟩
abbrev main_call10_v3 : Ref sig .tc := ⟨.hbm, 289, rfl⟩
abbrev main_call10_v4 : Ref sig .tc := ⟨.hbm, 290, rfl⟩
abbrev main_call10_v5 : Ref sig .tc := ⟨.hbm, 291, rfl⟩
abbrev main_call10_c_1 : Ref sig .tc := ⟨.hbm, 292, rfl⟩
abbrev main_call10_c_2 : Ref sig .tc := ⟨.hbm, 293, rfl⟩
abbrev main_call10_v6 : Ref sig .tc := ⟨.hbm, 294, rfl⟩
abbrev main_call10_v7 : Ref sig .tc := ⟨.hbm, 295, rfl⟩
abbrev main_call10_v8 : Ref sig .tc := ⟨.hbm, 296, rfl⟩
abbrev main_call10_v9 : Ref sig .tc := ⟨.hbm, 297, rfl⟩
abbrev main_call10_v10 : Ref sig .tc := ⟨.hbm, 298, rfl⟩
abbrev main_call10_v11 : Ref sig .tc := ⟨.hbm, 299, rfl⟩
abbrev main_call10_c_3 : Ref sig .tc := ⟨.hbm, 300, rfl⟩
abbrev main_call10_v12 : Ref sig .tc := ⟨.hbm, 301, rfl⟩
abbrev main_call10_v13 : Ref sig .tc := ⟨.hbm, 302, rfl⟩
abbrev main_call10_v14 : Ref sig .tc := ⟨.hbm, 303, rfl⟩
abbrev main_call10_c_4 : Ref sig .tc := ⟨.hbm, 304, rfl⟩
abbrev main_call10_v15 : Ref sig .tc := ⟨.hbm, 305, rfl⟩
abbrev main_v55 : Ref sig .tc := ⟨.hbm, 306, rfl⟩
abbrev main_v56 : Ref sig .tc := ⟨.hbm, 307, rfl⟩
abbrev main_v57 : Ref sig .tc := ⟨.hbm, 308, rfl⟩
abbrev main_call11_c : Ref sig .tc := ⟨.hbm, 309, rfl⟩
abbrev main_call11_v0 : Ref sig .tc := ⟨.hbm, 310, rfl⟩
abbrev main_call11_v1 : Ref sig .tc := ⟨.hbm, 311, rfl⟩
abbrev main_call11_c_0 : Ref sig .tc := ⟨.hbm, 312, rfl⟩
abbrev main_call11_v2 : Ref sig .tc := ⟨.hbm, 313, rfl⟩
abbrev main_call11_v3 : Ref sig .tc := ⟨.hbm, 314, rfl⟩
abbrev main_call11_v4 : Ref sig .tc := ⟨.hbm, 315, rfl⟩
abbrev main_call11_v5 : Ref sig .tc := ⟨.hbm, 316, rfl⟩
abbrev main_call11_c_1 : Ref sig .tc := ⟨.hbm, 317, rfl⟩
abbrev main_call11_c_2 : Ref sig .tc := ⟨.hbm, 318, rfl⟩
abbrev main_call11_v6 : Ref sig .tc := ⟨.hbm, 319, rfl⟩
abbrev main_call11_v7 : Ref sig .tc := ⟨.hbm, 320, rfl⟩
abbrev main_call11_v8 : Ref sig .tc := ⟨.hbm, 321, rfl⟩
abbrev main_call11_v9 : Ref sig .tc := ⟨.hbm, 322, rfl⟩
abbrev main_call11_v10 : Ref sig .tc := ⟨.hbm, 323, rfl⟩
abbrev main_call11_v11 : Ref sig .tc := ⟨.hbm, 324, rfl⟩
abbrev main_call11_c_3 : Ref sig .tc := ⟨.hbm, 325, rfl⟩
abbrev main_call11_v12 : Ref sig .tc := ⟨.hbm, 326, rfl⟩
abbrev main_call11_v13 : Ref sig .tc := ⟨.hbm, 327, rfl⟩
abbrev main_call11_v14 : Ref sig .tc := ⟨.hbm, 328, rfl⟩
abbrev main_call11_c_4 : Ref sig .tc := ⟨.hbm, 329, rfl⟩
abbrev main_call11_v15 : Ref sig .tc := ⟨.hbm, 330, rfl⟩
abbrev main_v58 : Ref sig .tc := ⟨.hbm, 331, rfl⟩
abbrev main_call12_c : Ref sig .tc := ⟨.hbm, 332, rfl⟩
abbrev main_call12_v0 : Ref sig .tc := ⟨.hbm, 333, rfl⟩
abbrev main_call12_v1 : Ref sig .tc := ⟨.hbm, 334, rfl⟩
abbrev main_call12_c_0 : Ref sig .tc := ⟨.hbm, 335, rfl⟩
abbrev main_call12_v2 : Ref sig .tc := ⟨.hbm, 336, rfl⟩
abbrev main_call12_v3 : Ref sig .tc := ⟨.hbm, 337, rfl⟩
abbrev main_call12_v4 : Ref sig .tc := ⟨.hbm, 338, rfl⟩
abbrev main_call12_v5 : Ref sig .tc := ⟨.hbm, 339, rfl⟩
abbrev main_call12_c_1 : Ref sig .tc := ⟨.hbm, 340, rfl⟩
abbrev main_call12_c_2 : Ref sig .tc := ⟨.hbm, 341, rfl⟩
abbrev main_call12_v6 : Ref sig .tc := ⟨.hbm, 342, rfl⟩
abbrev main_call12_v7 : Ref sig .tc := ⟨.hbm, 343, rfl⟩
abbrev main_call12_v8 : Ref sig .tc := ⟨.hbm, 344, rfl⟩
abbrev main_call12_v9 : Ref sig .tc := ⟨.hbm, 345, rfl⟩
abbrev main_call12_v10 : Ref sig .tc := ⟨.hbm, 346, rfl⟩
abbrev main_call12_v11 : Ref sig .tc := ⟨.hbm, 347, rfl⟩
abbrev main_call12_c_3 : Ref sig .tc := ⟨.hbm, 348, rfl⟩
abbrev main_call12_v12 : Ref sig .tc := ⟨.hbm, 349, rfl⟩
abbrev main_call12_v13 : Ref sig .tc := ⟨.hbm, 350, rfl⟩
abbrev main_call12_v14 : Ref sig .tc := ⟨.hbm, 351, rfl⟩
abbrev main_call12_c_4 : Ref sig .tc := ⟨.hbm, 352, rfl⟩
abbrev main_call12_v15 : Ref sig .tc := ⟨.hbm, 353, rfl⟩
abbrev main_v59 : Ref sig .tc := ⟨.hbm, 354, rfl⟩
abbrev main_v60 : Ref sig .tc := ⟨.hbm, 355, rfl⟩

abbrev nD : Nat := 1
abbrev τ : Topo := Topo.v7x

variable {F : FTy → Type} [FloatOps F]
-- ==== Proof.Parity.lean ====
/- Parities of bit vectors, and what the kernel's and the reference's arithmetic makes of them. Nothing here names a
   program. A bit vector is a function `ℕ → Bool` of which the first `n` places count; `par u f n` is the sum modulo
   two of the places of `u` that the row `f` selects, `cnt u f n` is the same sum taken in the natural numbers. -/
module

public import Idealize.ShloMosaic.PureOps.Ideal.Laws
public import Mathlib.Data.Nat.Bitwise
public import Mathlib.Algebra.BigOperators.Fin
public import Mathlib.Algebra.Order.Floor.Semiring
public import Mathlib.Tactic.Linarith

@[expose] public section

namespace Cert.Polar

open scoped BigOperators

/-- The sum modulo two of the places `k < n` of `u` that `f` selects. -/
def par (u f : ℕ → Bool) : ℕ → Bool
  | 0 => false
  | n + 1 => par u f n ^^ (u n && f n)

/-- How many places `k < n` of `u` that `f` selects are set. -/
def cnt (u f : ℕ → Bool) : ℕ → ℕ
  | 0 => 0
  | n + 1 => cnt u f n + (u n && f n).toNat

variable (u f g : ℕ → Bool)

/-- The count's remainder by two is the parity. -/
theorem cnt_mod_two (n : ℕ) : cnt u f n % 2 = (par u f n).toNat := by
  induction n with
  | zero => rfl
  | succ n ih =>
    rw [cnt, par, Nat.add_mod, ih]
    cases par u f n <;> cases (u n && f n) <;> rfl

/-- The count is at most the number of places. -/
theorem cnt_le (n : ℕ) : cnt u f n ≤ n := by
  induction n with
  | zero => exact le_refl _
  | succ n ih => exact Nat.add_le_add ih (Bool.toNat_le _)

/-- The parity is linear in the selecting row. -/
theorem par_xor (n : ℕ) : par u (fun k => f k ^^ g k) n = (par u f n ^^ par u g n) := by
  induction n with
  | zero => rfl
  | succ n ih =>
    simp only [par, ih]
    cases par u f n <;> cases par u g n <;> cases u n <;> cases f n <;> cases g n <;> rfl

variable {u f g} in
/-- The parity reads the selecting row below `n` only. -/
theorem par_congr {n : ℕ} (h : ∀ k < n, f k = g k) : par u f n = par u g n := by
  induction n with
  | zero => rfl
  | succ n ih => rw [par, par, ih fun k hk => h k (hk.trans n.lt_succ_self), h n n.lt_succ_self]

/-- A row that selects nothing has parity zero. -/
theorem par_false (n : ℕ) : par u (fun _ => false) n = false := by
  induction n with
  | zero => rfl
  | succ n ih => rw [par, ih, Bool.and_false]; rfl

/-- A row that selects one place has that place as its parity. -/
theorem par_single {i n : ℕ} (hi : i < n) : par u (fun k => decide (k = i)) n = u i := by
  induction n with
  | zero => exact absurd hi (Nat.not_lt_zero _)
  | succ n ih =>
    rw [par]
    rcases Nat.lt_succ_iff_lt_or_eq.1 hi with h | rfl
    · rw [ih h, decide_eq_false (Nat.ne_of_gt h), Bool.and_false, Bool.xor_false]
    · rw [par_congr (g := fun _ => false) fun k hk => decide_eq_false (Nat.ne_of_lt hk), par_false, decide_eq_true rfl,
        Bool.and_true, Bool.false_xor]

/-- A bit as an extended real. -/
noncomputable def bitE (b : Bool) : EReal := if b then 1 else 0

/-- A bit as an extended real is its number. -/
theorem bitE_eq (b : Bool) : bitE b = ((b.toNat : ℝ) : EReal) := by
  cases b
  · exact (congrArg Real.toEReal Nat.cast_zero).symm
  · exact (congrArg Real.toEReal Nat.cast_one).symm

/-- A bit is set or not as its extended real is one or zero. -/
theorem eq_bitE_of {x : EReal} (h : x = 0 ∨ x = 1) : x = bitE (decide (x = 1)) := by
  rcases h with rfl | rfl
  · rw [decide_eq_false zero_ne_one]; rfl
  · rw [decide_eq_true rfl]; rfl

/-- The extended-real product of two bit vectors is the count. -/
theorem sum_eq_cnt (n : ℕ) : ∑ k : Fin n, bitE (u k) * bitE (f k) = ((cnt u f n : ℝ) : EReal) := by
  induction n with
  | zero => simp [cnt]
  | succ n ih =>
    rw [Fin.sum_univ_castSucc]
    simp only [Fin.val_castSucc, Fin.val_last]
    rw [ih, bitE_eq, bitE_eq, ← EReal.coe_mul, ← EReal.coe_add, cnt]
    refine congrArg Real.toEReal ?_
    rw [Nat.cast_add]
    refine congrArg _ ?_
    cases u n <;> cases f n <;> simp

/-- A number less twice the floor of its half is its remainder by two. -/
theorem sub_two_floor (n : ℕ) : (n : ℝ) - 2 * ((⌊(n : ℝ) * (1 / 2)⌋ : ℤ) : ℝ) = ((n % 2 : ℕ) : ℝ) := by
  have e : (n : ℝ) = 2 * ((n / 2 : ℕ) : ℝ) + ((n % 2 : ℕ) : ℝ) := by exact_mod_cast (Nat.div_add_mod n 2).symm
  have hb : ((n % 2 : ℕ) : ℝ) < 2 := by exact_mod_cast Nat.mod_lt n Nat.two_pos
  have h0 : (0 : ℝ) ≤ ((n % 2 : ℕ) : ℝ) := Nat.cast_nonneg _
  have h : ⌊(n : ℝ) * (1 / 2)⌋ = ((n / 2 : ℕ) : ℤ) := by
    rw [Int.floor_eq_iff, Int.cast_natCast]
    constructor <;> linarith
  rw [h, Int.cast_natCast]
  linarith

end Cert.Polar
-- ==== Proof.Message.lean ====
/- The argument's rows as bit vectors. -/
module

public import proofs.«01_k».proof.Proof.Parity
public import Idealize.ShloMosaic.Lib.StackMember

@[expose] public noncomputable section

namespace Cert.Polar

open Idealize.ShloMosaic Idealize.ShloMosaic.ValueIdx

/-- Row `b` of the argument as a bit vector: a place is set when its entry is one. -/
def msg (X : (⟨2, ![4096, 512]⟩ : Shape).Idx → EReal) (b : Fin 4096) (k : ℕ) : Bool :=
  if h : k < 512 then decide (X (ix2 b ⟨k, h⟩) = 1) else false

/-- An argument whose entries are 0 and 1 is its bits. -/
theorem arg_eq_msg {X : (⟨2, ![4096, 512]⟩ : Shape).Idx → EReal} (hX : ∀ i, X i = 0 ∨ X i = 1) (b : Fin 4096) (k : Fin 512) :
    X (ix2 b k) = bitE (msg X b k.val) := by
  unfold msg
  rw [dif_pos k.isLt]
  exact eq_bitE_of (hX _)

end Cert.Polar
-- ==== Proof.KernelValue.lean ====
/- The kernel's value: element (b, n) of its result is the parity of message b's places that column n of its constant
   matrix selects. A block's product with the matrix is a count of places, and a count less twice the floor of its half is
   the count modulo two; the two blocks of 2048 rows fill the result. -/
module

public import proofs.«01_k».proof.Proof.Gen.KernelIdeal.Value
public import proofs.«01_k».proof.Proof.Message
public import Idealize.ShloMosaic.Lib.MatmulPlain
public import Idealize.ShloMosaic.Lib.StableHlo.Run
public import Idealize.ShloMosaic.Lib.IdealHost

@[expose] public noncomputable section

namespace Cert.Polar

open Cert.KernelIdeal Cert.KernelIdeal.Gen Cert.KernelIdeal.Value
open Idealize.ShloMosaic Idealize.ShloMosaic.TcCoe Idealize.ShloMosaic.ValueIdx Idealize.SL.Sem

/-! ## The body -/

/-- The f32 pattern of one half. -/
theorem half_word : Ideal.ofBits .f32 0x3F000000#32 = (((1 : ℝ) / 2 : ℝ) : EReal) := by
  simp [Ideal.ofBits, Ideal.ieee]
  rw [← EReal.coe_mul]
  norm_num

/-- The f32 pattern of two. -/
theorem two_word : Ideal.ofBits .f32 0x40000000#32 = ((2 : ℝ) : EReal) := by
  simp [Ideal.ofBits, Ideal.ieee]
  rw [← EReal.coe_mul]
  norm_num

/-- The body's arithmetic on a count: less twice the floor of its half, the count is its parity. -/
theorem count_arith (u f : ℕ → Bool) :
    ((cnt u f 512 : ℝ) : EReal) - Ideal.ofBits .f32 0x40000000#32
        * Ideal.liftRound Int.floor (((cnt u f 512 : ℝ) : EReal) * Ideal.ofBits .f32 0x3F000000#32)
      = bitE (par u f 512) := by
  rw [half_word, two_word, ← EReal.coe_mul, Ideal.liftRound_coe, ← EReal.coe_mul, ← EReal.coe_sub, sub_two_floor, cnt_mod_two,
    bitE_eq]

/-- What the body stores, read at an element where the row's entries and the column's entries are bits. -/
theorem pay_apply (x : Vec Ideal S2048x512 .f32) (y : Vec Ideal S512x1024 .bf16) (r : Fin 2048) (n : Fin 1024) (u f : ℕ → Bool)
    (hx : ∀ k : Fin 512, x (ix2 r k) = bitE (u k.val)) (hy : ∀ k : Fin 512, y (ix2 k n) = bitE (f k.val)) :
    k0_pay1 x y (ix2 r n) = bitE (par u f 512) := by
  have hm : FloatOps.matmul (F := Ideal) (φ₁ := .bf16) (φ₂ := .bf16) dot_S2048x512_S512x1024_S2048x1024_1_0_0_1_n_n none
      (truncf .bf16 x bitsLt_bf16_f32 : FVec Ideal S2048x512 .bf16) (y : FVec Ideal S512x1024 .bf16)
      (constant S2048x1024 .f32 0x00000000#32) (ix2 r n) = ((cnt u f 512 : ℝ) : EReal) := by
    refine (Ideal.matmul_plain_apply (M := 2048) (K := 512) (N := 1024) none _ _ _ r n).trans ?_
    rw [← sum_eq_cnt]
    have h0 : (constant S2048x1024 .f32 0x00000000#32 : FVec Ideal S2048x1024 .f32) (ix2 r n) = 0 := Ideal.ofBits_zero_f32
    refine (congrArg₂ (· + ·) h0 (Finset.sum_congr rfl fun k _ => ?_)).trans (zero_add _)
    exact congrArg₂ (· * ·) (hx k) (hy k)
  have hs : shapeCast S512x1024 y shapeCasts_S512x1024_S512x1024 = y := shapeCast_self y _
  rw [← count_arith, ← hm]
  unfold k0_pay1
  rw [hs]
  rfl

/-! ## The constant matrix -/

variable (m : (ℓ : Loc nD τ sig) → Buf (Elt Ideal) ℓ) (ρ : Dev nD → PrngReg)

/-- The matrix as the host unpacks it from its words: each word copied along a third axis and shifted by the place on that axis, the
    lowest bit kept, the last two axes joined, and the bits converted to bf16. -/
def unpacked : FVec Ideal S512x1024 .bf16 :=
  sitofp .bf16 (shapeCast S512x1024 (andi
    (Host.shrui
      (broadcastInDim S512x32x32 ![0, 1, 2] bcast_S512x32x1_S512x32x32_0_1_2
        (broadcastInDim S512x32x1 ![0, 1] bcast_S512x32_S512x32x1_0_1 (fun i => lit0 (S512x32.rowMajor i))))
      (broadcastInDim S512x32x32 ![2] bcast_S32_S512x32x32_2 (iotaInDim S32 32 0)))
    (broadcastInDim S512x32x32 ![] bcast_S_S512x32x32 (constantI S_ 32 1#32))) shapeCasts_S512x32x32_S512x1024)

/-- The matrix as the pipeline finds it. -/
theorem V_matrix (c : Dev nD) : V m c main_v8 = unpacked := by
  dsimp only [V, hostOps0]
  after_results_simp
  rfl

/-- A word shifted by `j` places, its lowest bit kept: the word's binary digit at `j`, as a real. -/
theorem shifted_bit (x : BitVec 32) (j : ℕ) (hj : j < 32) (p : Bool) (h : x.toNat / 2 ^ j % 2 = p.toNat) :
    (((IntOp.andi (IntOp.shrui .host x (BitVec.ofNat 32 j)) 1#32).toInt : ℝ) : EReal) = bitE p := by
  have ht : (BitVec.ofNat 32 j).toNat = j := Nat.mod_eq_of_lt (hj.trans (by decide))
  have e : IntOp.andi (IntOp.shrui .host x (BitVec.ofNat 32 j)) 1#32 = BitVec.ofNat 32 p.toNat := by
    unfold IntOp.andi IntOp.shrui
    rw [if_pos (ht.trans_lt hj)]
    refine BitVec.eq_of_toNat_eq ?_
    rw [BitVec.toNat_and, BitVec.ushiftRight_eq', BitVec.toNat_ushiftRight, ht, Nat.shiftRight_eq_div_pow]
    show x.toNat / 2 ^ j &&& 1 = _
    rw [Nat.and_one_is_mod, h]
    cases p <;> rfl
  rw [e, bitE_eq]
  cases p
  · simp
  · have h1 : (BitVec.ofNat 32 true.toNat).toInt = 1 := by decide
    rw [h1]
    simp

/-- An entry of the unpacked matrix is the binary digit of its row's word. -/
theorem unpacked_apply (k : Fin 512) (n : Fin 1024) (p : Bool)
    (h : (lit0t (k.val * 32 + n.val / 32)).toNat / 2 ^ (n.val % 32) % 2 = p.toNat) :
    (unpacked : S512x1024.Idx → EReal) (ix2 k n) = bitE p := by
  have hw : n.val / 32 < 32 := by have := n.isLt; omega
  have hj : n.val % 32 < 32 := Nat.mod_lt _ (by decide)
  have hl : ∀ (i : Fin 16384) (v : ℕ), i.val = v → lit0 i = lit0t v := fun i v h => h ▸ rfl
  have hx : lit0 (S512x32.rowMajor (ix2 k (⟨n.val / 32, hw⟩ : Fin 32))) = lit0t (k.val * 32 + n.val / 32) :=
    hl _ _ (by rw [Shape.rowMajor_val_two]; rfl)
  refine Eq.trans ?_ (shifted_bit _ (n.val % 32) hj p h)
  unfold unpacked
  refine congrArg (fun w : BitVec 32 => ((w.toInt : ℝ) : EReal)) ?_
  refine (shapeCast_apply _ _ _ (ix3 k (⟨n.val / 32, hw⟩ : Fin 32) (⟨n.val % 32, hj⟩ : Fin 32)) ?_).trans ?_
  · rw [Shape.rowMajor_val_two, Shape.rowMajor_val_three]
    show (k.val * 32 + n.val / 32) * 32 + n.val % 32 = k.val * 1024 + n.val
    omega
  · rw [← hx]
    rfl

/-! ## The blocks -/

theorem offsets_zero : (![0, 0] : Fin 2 → Nat) = fun _ => 0 := funext fun a => by fin_cases a <;> rfl

/-- Where the windows stand at a grid point: the message's and the result's at the point's block of rows, the matrix's at
    the whole matrix. -/
theorem window_index : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- Row `r` of the block at point `t`, in the whole array. -/
def blockRow (t : Fin cfg0.N) (r : Fin 2048) : Fin 4096 := ⟨t.val * 2048 + r.val, by
  have h : t.val < 2 := lt_of_lt_of_eq t.isLt N_0
  have := r.isLt
  omega⟩

/-- The message's block at a point reads the point's rows. -/
theorem message_block (c : Dev nD) (t : Fin cfg0.N) (r : Fin 2048) (k : Fin 512) :
    iblk m c 0 t (ix2 r k) = V m c main_arg0 (ix2 (blockRow t r) k) := by
  obtain ⟨⟨e0, e1⟩, -, -⟩ := window_index t
  show V m c main_arg0 (((cfg0.win 0).blk t).view.emb (ix2 r k)) = _
  refine congrArg (V m c main_arg0) (funext fun a => Fin.ext ?_)
  match a with
  | ⟨0, _⟩ => show win0_0.index t (0 : Fin 2) * 2048 + 1 * r.val = t.val * 2048 + r.val; omega
  | ⟨1, _⟩ => show win0_0.index t (1 : Fin 2) * 512 + 1 * k.val = k.val; omega

/-- The matrix's block at a point is the matrix. -/
theorem matrix_block (c : Dev nD) (t : Fin cfg0.N) (k : Fin 512) (n : Fin 1024) :
    iblk m c 1 t (ix2 k n) = V m c main_v8 (ix2 k n) := by
  obtain ⟨-, ⟨e0, e1⟩, -⟩ := window_index t
  show V m c main_v8 (((cfg0.win 1).blk t).view.emb (ix2 k n)) = _
  refine congrArg (V m c main_v8) (funext fun a => Fin.ext ?_)
  match a with
  | ⟨0, _⟩ => show win0_1.index t (0 : Fin 2) * 512 + 1 * k.val = k.val; omega
  | ⟨1, _⟩ => show win0_1.index t (1 : Fin 2) * 1024 + 1 * n.val = n.val; omega

/-- A result block's element, in the whole array. -/
theorem result_emb (t : Fin cfg0.N) (r : Fin 2048) (n : Fin 1024) :
    (((cfg0.win 2).blk t).view.emb (ix2 r n) : S4096x1024.Idx) = ix2 (blockRow t r) n := by
  obtain ⟨-, -, ⟨e0, e1⟩⟩ := window_index t
  refine funext fun a => Fin.ext ?_
  match a with
  | ⟨0, _⟩ => show win0_2.index t (0 : Fin 2) * 2048 + 1 * r.val = t.val * 2048 + r.val; omega
  | ⟨1, _⟩ => show win0_2.index t (1 : Fin 2) * 1024 + 1 * n.val = n.val; omega

/-- An array read through a result block. -/
theorem result_block (t : Fin cfg0.N) (X : S4096x1024.Idx → EReal) (r : Fin 2048) (n : Fin 1024) :
    ((cfg0.win 2).blk t).view.read (Elt Ideal) X (ix2 r n) = X (ix2 (blockRow t r) n) := by
  show X (((cfg0.win 2).blk t).view.emb (ix2 r n)) = _
  exact congrArg X (result_emb t r n)

/-- The codeword bits of a message under the rows `f`, as the result array. -/
def codeword (X : S4096x512.Idx → EReal) (f : ℕ → ℕ → Bool) : S4096x1024.Idx → EReal :=
  fun i => bitE (par (msg X (i 0)) (fun k => f k (i 1).val) 512)

/-- Device `c`'s argument array, as extended reals. -/
abbrev argArr (c : Dev nD) : S4096x512.Idx → EReal := m ((c : Thread nD τ).loc main_arg0)

/-- The codeword bits, read at an element. -/
theorem codeword_apply (X : S4096x512.Idx → EReal) (f : ℕ → ℕ → Bool) (b : Fin 4096) (n : Fin 1024) :
    codeword X f (ix2 b n) = bitE (par (msg X b) (fun k => f k n.val) 512) := rfl

variable (f : ℕ → ℕ → Bool)
  (hf : ∀ k < 512, ∀ n < 1024, (lit0t (k * 32 + n / 32)).toNat / 2 ^ (n % 32) % 2 = (f k n).toNat)
  (hX : ∀ c i, argArr m c i = 0 ∨ argArr m c i = 1)

include hf in
/-- The matrix's entries are the rows' bits. -/
theorem matrix_entry (c : Dev nD) (k : Fin 512) (n : Fin 1024) :
    (V m c main_v8 : S512x1024.Idx → EReal) (ix2 k n) = bitE (f k.val n.val) :=
  (congrFun (V_matrix m c) (ix2 k n)).trans (unpacked_apply k n _ (hf _ k.isLt _ n.isLt))

include hf hX in
/-- What a grid point writes back is its block of the codeword bits. -/
theorem flushed_codeword (c : Dev nD) (t : Fin cfg0.N) :
    (dats m 0 c).flushed 2 t
      = ((cfg0.win 2).blk t).view.read (Elt Ideal) (codeword (argArr m c) f) := by
  rw [flushed2]
  unfold out0_2
  rw [View.canon_unit_zero offsets_zero, View.ld_unit_zero offsets_zero, View.ld_unit_zero offsets_zero]
  funext j
  obtain ⟨r, n, rfl⟩ : ∃ (r : Fin 2048) (n : Fin 1024), j = ix2 r n := ⟨j 0, j 1, eq_ix2 (n0 := 2048) (n1 := 1024) j⟩
  refine (pay_apply (iblk m c 0 t) (iblk m c 1 t) r n (msg (argArr m c) (blockRow t r))
    (fun k => f k n.val) (fun k => ?_) (fun k => ?_)).trans ?_
  · rw [message_block, V_main_arg0]
    exact arg_eq_msg (hX c) _ k
  · rw [matrix_block]
    exact matrix_entry m f hf c k n
  · rw [result_block, codeword_apply]

/-- Every element of the result is in a point's block. -/
theorem result_covered (i : S4096x1024.Idx) :
    ∃ t : Fin cfg0.N, (cfg0.win 2).flush t = true ∧ i ∈ ((cfg0.win 2).blk t).view.set := by
  have h0 : (i 0).val < 4096 := (i 0).isLt
  have ht : (i 0).val / 2048 < cfg0.N := lt_of_lt_of_eq (by omega : (i 0).val / 2048 < 2) N_0.symm
  refine ⟨⟨(i 0).val / 2048, ht⟩, flush0_2 _, ?_⟩
  have h := ((cfg0.win 2).blk ⟨(i 0).val / 2048, ht⟩).view.emb_mem_set
    (ix2 (⟨(i 0).val % 2048, Nat.mod_lt _ (by decide)⟩ : Fin 2048) (i 1 : Fin 1024))
  have e : ix2 (blockRow ⟨(i 0).val / 2048, ht⟩ ⟨(i 0).val % 2048, Nat.mod_lt _ (by decide)⟩) (i 1 : Fin 1024) = i := by
    refine funext fun a => Fin.ext ?_
    match a with
    | ⟨0, _⟩ => exact Nat.div_add_mod' (i 0).val 2048
    | ⟨1, _⟩ => rfl
  exact Eq.mp (congrArg (· ∈ ((cfg0.win 2).blk ⟨(i 0).val / 2048, ht⟩).view.set) ((result_emb _ _ _).trans e)) h

include hf hX in
/-- The kernel's run: the result holds the codeword bits, the argument is unchanged. -/
theorem kernel_run : θ_run defs (onTc (τ := τ) (main (F := Ideal))) ⟨m, fun _ => 0, ρ⟩ fun r => ∀ c : Dev nD,
      r.2.mem ((c : Thread nD τ).loc main_v9) = codeword (argArr m c) f
      ∧ r.2.mem ((c : Thread nD τ).loc main_arg0) = m ((c : Thread nD τ).loc main_arg0) :=
  (θ_run defs _ _).mono (fun _ h c => ⟨(h c).1.trans ((dats m 0 c).arrAt_eq_of_cover 2
    (codeword (argArr m c) f) (fun t _ => flushed_codeword m f hf hX c t) result_covered), (h c).2⟩)
    (run_blocks m ρ)

end Cert.Polar
-- ==== Proof.Columns.lean ====
/- The reference's column operations read at one element, at any extents: the take of columns by a vector of column
   numbers, and the scatter that sets columns. Nothing here names a program. -/
module

public import Idealize.ShloMosaic.PureOps
public import Idealize.ShloMosaic.Lib.ValueIdxCore
public import Idealize.ShloMosaic.Lib.ReduceAll
public import Idealize.ShloMosaic.Lib.WordCmp
public import Idealize.ShloMosaic.Lib.Routing.OpsSet
public import Idealize.ShloMosaic.Lib.Pipeline.Value

@[expose] public section

namespace Cert.Polar

open Idealize.ShloMosaic Idealize.ShloMosaic.ValueIdx

variable {α : Type} {B N n : ℕ}

/-! ## The take of columns -/

/-- The dimension numbers of `x[:, idx]`: whole columns of a matrix, one column number each. -/
abbrev takeDims2 (B N n : ℕ)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- The gather of columns read at an element: the operand in the same row, at the column number the index word holds. -/
theorem gather_columns (wf : GatherDims.WF ⟨2, ![B, N]⟩ ⟨2, ![n, 1]⟩ ⟨2, ![B, n]⟩ [0] [1] [] [1] [] 1 ![B, 1])
    (hN : N ≤ 2 ^ 31) (x : (⟨2, ![B, N]⟩ : Shape).Idx → α) (idx : IVec ⟨2, ![n, 1]⟩ 32) (b : Fin B) (j : Fin n) (v : Fin N)
    (hv : idx (ix2 j (0 : Fin 1)) = BitVec.ofNat 32 v.val) :
    Host.gather (takeDims2 B N n wf) x idx (ix2 b j) = x (ix2 b v) := by
  unfold Host.gather
  refine congrArg x (funext fun a => Fin.ext ?_)
  show (takeDims2 B N n wf).start (ix2 b j) idx a + (takeDims2 B N n wf).batchCoord (ix2 b j) a
      + (takeDims2 B N n wf).offCoord (ix2 b j) a = _
  rw [GatherDims.batchCoord_eq_zero _ _ _ List.not_mem_nil]
  match a with
  | ⟨0, _⟩ =>
    have hs : (takeDims2 B N n wf).start (ix2 b j) idx (0 : Fin 2) = 0 := by
      unfold GatherDims.start
      rw [dif_neg (by decide : (0 : Fin 2) ∉ [(1 : Fin 2)])]
    have ho : (takeDims2 B N n wf).offCoord (ix2 b j) (0 : Fin 2) = b.val := by
      unfold GatherDims.offCoord
      rw [dif_pos ((GatherDims.mem_sKept _ _).2 ⟨(by decide : (0 : Fin 2) ∉ [(1 : Fin 2)]), List.not_mem_nil⟩)]
      rfl
    show (takeDims2 B N n wf).start (ix2 b j) idx (0 : Fin 2) + 0 + (takeDims2 B N n wf).offCoord (ix2 b j) (0 : Fin 2) = b.val
    rw [hs, ho]
    omega
  | ⟨1, _⟩ =>
    have ho : (takeDims2 B N n wf).offCoord (ix2 b j) (1 : Fin 2) = 0 :=
      GatherDims.offCoord_eq_zero _ _ _ fun h => ((GatherDims.mem_sKept _ _).1 h).1 (List.mem_singleton.2 rfl)
    have hs : (takeDims2 B N n wf).start (ix2 b j) idx (1 : Fin 2) = v.val := by
      unfold GatherDims.start
      rw [dif_pos (List.mem_singleton.2 rfl : (1 : Fin 2) ∈ [(1 : Fin 2)])]
      have hsi : (takeDims2 B N n wf).siIdx (ix2 b j) ⟨List.idxOf (1 : Fin 2) (takeDims2 B N n wf).startIndexMap,
          List.idxOf_lt_length_iff.2 (List.mem_singleton.2 rfl)⟩ = ix2 j (0 : Fin 1) := by
        funext c; refine Fin.ext ?_
        match c with
        | ⟨0, _⟩ => rfl
        | ⟨1, _⟩ => rfl
      have hvl := v.isLt
      rw [hsi, hv, StableHlo.Predicate.toInt_ofNat_small _ (by omega)]
      show min ((v.val : ℤ).toNat) (N - 1) = v.val
      omega
    show (takeDims2 B N n wf).start (ix2 b j) idx (1 : Fin 2) + 0 + (takeDims2 B N n wf).offCoord (ix2 b j) (1 : Fin 2) = v.val
    rw [hs, ho]
    omega

/-- The column numbers of a take, after the wrap of negative ones: a vector of numbers below the wrap stays itself. -/
theorem wrapped_index (hb : (⟨1, ![n]⟩ : Shape).BroadcastsInDim ⟨2, ![n, 1]⟩ ![0]) (row zero add : IVec ⟨1, ![n]⟩ 32)
    (hz : ∀ i, zero i = 0#32) (j : Fin n) (v : ℕ) (hv : row (ix1 j) = BitVec.ofNat 32 v) (h31 : v < 2 ^ 31) :
    broadcastInDim ⟨2, ![n, 1]⟩ ![0] hb (select (cmpi .slt row zero) add row) (ix2 j (0 : Fin 1)) = BitVec.ofNat 32 v := by
  rw [broadcastInDim_apply ![0] hb _ (ix2 j (0 : Fin 1)) (ix1 j) (fun a => by
    match a with
    | ⟨0, _⟩ =>
      show j.val = if n = 1 then 0 else j.val
      have := j.isLt
      split <;> omega)]
  show Scalar.select (IntOp.cmpi .slt (row (ix1 j)) (zero (ix1 j))) _ (row (ix1 j)) = _
  rw [hz, Routing.wrap_of_lt _ _ (by rw [hv, BitVec.toNat_ofNat]; omega), hv]

/-- The take of columns whose numbers are all in range, as the reference states it — gathered, and filled where a number
    is out of range — read at an element: the operand in the same row, at that column. -/
theorem take_columns (wf : GatherDims.WF ⟨2, ![B, N]⟩ ⟨2, ![n, 1]⟩ ⟨2, ![B, n]⟩ [0] [1] [] [1] [] 1 ![B, 1])
    (hN : N ≤ 2 ^ 31) (x : (⟨2, ![B, N]⟩ : Shape).Idx → α) (fill' : (⟨2, ![B, n]⟩ : Shape).Idx → α)
    (idx lo hi : IVec ⟨2, ![n, 1]⟩ 32) (one : IVec ⟨0, ![]⟩ 1)
    (hred : (⟨2, ![n, 1]⟩ : Shape).ReducesTo [1] ⟨1, ![n]⟩) (hu : 0 < (⟨0, ![]⟩ : Shape).numel)
    (hb : (⟨1, ![n]⟩ : Shape).BroadcastsInDim ⟨2, ![B, n]⟩ ![1])
    (hlo : ∀ i, lo i = 0#32) (hhi : ∀ i, hi i = BitVec.ofNat 32 (N - 1)) (hone : ∀ i, one i = 1#1)
    (v : Fin n → Fin N) (hv : ∀ j, idx (ix2 j (0 : Fin 1)) = BitVec.ofNat 32 (v j).val) (b : Fin B) (j : Fin n) :
    select (broadcastInDim ⟨2, ![B, n]⟩ ![1] hb
        (Host.reduce IntOp.andi (andi (cmpi .sge idx lo) (cmpi .sle idx hi)) one hred hu))
      (Host.gather (takeDims2 B N n wf) x idx) fill' (ix2 b j) = x (ix2 b (v j)) := by
  have hall : ∀ j', Host.reduce IntOp.andi (andi (cmpi .sge idx lo) (cmpi .sle idx hi)) one hred hu j' = 1#1 := fun j' =>
    Host.reduce_andi_one _ _ hred hu j' (hone _) fun i => by
      obtain ⟨p, rfl⟩ : ∃ p : Fin n, i = ix2 p (0 : Fin 1) := ⟨i 0, by
        rw [eq_ix2 i]; congr 1; exact Subsingleton.elim (α := Fin 1) _ _⟩
      show IntOp.andi (IntOp.cmpi .sge (idx _) (lo _)) (IntOp.cmpi .sle (idx _) (hi _)) = 1#1
      have hp := (v p).isLt
      rw [hlo, hhi, hv, WordCmp.cmpi_sge_zero, WordCmp.cmpi_sle_ofNat (by omega) (by omega), BitVec.toNat_ofNat,
        decide_eq_true (by omega), decide_eq_true (by omega)]
      rfl
  have hm : broadcastInDim ⟨2, ![B, n]⟩ ![1] hb
      (Host.reduce IntOp.andi (andi (cmpi .sge idx lo) (cmpi .sle idx hi)) one hred hu) (ix2 b j) = 1#1 := hall _
  show Scalar.select _ _ _ = _
  rw [hm]
  exact gather_columns wf hN x idx b j (v j) (hv j)

/-! ## The scatter that sets columns -/

/-- The dimension numbers of `x.at[:, idx].set(u)`: whole columns of a matrix, one column number each. -/
abbrev setDims2 (B N n : ℕ) (wf : ScatterDims.WF ⟨2, ![B, N]⟩ ⟨2, ![n, 1]⟩ ⟨2, ![B, n]⟩ [0] [1] [1] 1) :
    ScatterDims ⟨2, ![B, N]⟩ ⟨2, ![n, 1]⟩ ⟨2, ![B, n]⟩ where
  updateWindowDims := [0]
  insertedWindowDims := [1]
  scatterDimsToOperandDims := [1]
  indexVectorDim := 1
  wf := wf

/-- An update lands in its own row, at the column number its index word holds. -/
theorem set_lands (wf : ScatterDims.WF ⟨2, ![B, N]⟩ ⟨2, ![n, 1]⟩ ⟨2, ![B, n]⟩ [0] [1] [1] 1) (idx : IVec ⟨2, ![n, 1]⟩ 32)
    (pos : Fin n → ℕ) (hpos : ∀ p, pos p < 2 ^ 31) (hidx : ∀ p, idx (ix2 p (0 : Fin 1)) = BitVec.ofNat 32 (pos p))
    (b' b : Fin B) (p : Fin n) (j : Fin N) :
    (setDims2 B N n wf).resultIdx? (ix2 b' p) idx = some (ix2 b j) ↔ b' = b ∧ pos p = j.val := by
  have hs0 : (setDims2 B N n wf).start (ix2 b' p) idx (0 : Fin 2) = 0 := by
    unfold ScatterDims.start
    rw [dif_neg (by decide : (0 : Fin 2) ∉ [(1 : Fin 2)])]
  have hw0 : (setDims2 B N n wf).window (ix2 b' p) (0 : Fin 2) = b'.val := by
    unfold ScatterDims.window
    rw [dif_pos (show (0 : Fin 2) ∈ (setDims2 B N n wf).sKept from
      List.mem_filter.2 ⟨List.mem_finRange _, (by decide : decide ((0 : Fin 2) ∉ [(1 : Fin 2)]) = true)⟩)]
    rfl
  have hw1 : (setDims2 B N n wf).window (ix2 b' p) (1 : Fin 2) = 0 := by
    unfold ScatterDims.window
    rw [dif_neg fun h => (of_decide_eq_true (List.mem_filter.1 h).2) (List.mem_singleton.2 rfl)]
  have hs1 : (setDims2 B N n wf).start (ix2 b' p) idx (1 : Fin 2) = (pos p : ℤ) := by
    unfold ScatterDims.start
    rw [dif_pos (List.mem_singleton.2 rfl : (1 : Fin 2) ∈ [(1 : Fin 2)])]
    have hsi : (setDims2 B N n wf).siIdx (ix2 b' p) ⟨List.idxOf (1 : Fin 2) (setDims2 B N n wf).scatterDimsToOperandDims,
        List.idxOf_lt_length_iff.2 (List.mem_singleton.2 rfl)⟩ = ix2 p (0 : Fin 1) := by
      funext c; refine Fin.ext ?_
      match c with
      | ⟨0, _⟩ => rfl
      | ⟨1, _⟩ => rfl
    rw [hsi, hidx, StableHlo.Predicate.toInt_ofNat_small _ (hpos p)]
  rw [Routing.resultIdx?_ix2]
  rw [hs0, hw0, hs1, hw1, Fin.ext_iff]
  omega

variable (wf : ScatterDims.WF ⟨2, ![B, N]⟩ ⟨2, ![n, 1]⟩ ⟨2, ![B, n]⟩ [0] [1] [1] 1)
  (x0 : (⟨2, ![B, N]⟩ : Shape).Idx → α) (idx : IVec ⟨2, ![n, 1]⟩ 32) (upd : (⟨2, ![B, n]⟩ : Shape).Idx → α)
  (pos : Fin n → ℕ) (hpos : ∀ p, pos p < 2 ^ 31) (hidx : ∀ p, idx (ix2 p (0 : Fin 1)) = BitVec.ofNat 32 (pos p))

include hpos hidx in
/-- The scatter read where an update lands, the column numbers distinct: that update. -/
theorem set_columns_hit (hinj : Function.Injective pos) (b : Fin B) (p : Fin n) (j : Fin N) (hj : pos p = j.val) :
    Host.scatter (setDims2 B N n wf) (fun _ y => y) x0 idx upd (ix2 b j) = upd (ix2 b p) := by
  refine Routing.scatter_set_hit _ x0 idx upd (ix2 b j) _ (fun k hk => ?_) (ix2 b p)
    ((set_lands wf idx pos hpos hidx b b p j).2 ⟨rfl, hj⟩)
  rw [eq_ix2 k] at hk ⊢
  obtain ⟨e, e'⟩ := (set_lands wf idx pos hpos hidx (k 0) b (k 1) j).1 hk
  have e1 : k 1 = p := hinj (e'.trans hj.symm)
  exact congrArg upd (funext fun a => by
    match a with
    | ⟨0, _⟩ => exact e
    | ⟨1, _⟩ => exact e1)

include hpos hidx in
/-- The scatter read where no update lands: the operand. -/
theorem set_columns_miss (b : Fin B) (j : Fin N) (hj : ∀ p, pos p ≠ j.val) :
    Host.scatter (setDims2 B N n wf) (fun _ y => y) x0 idx upd (ix2 b j) = x0 (ix2 b j) := by
  refine Routing.scatter_set_miss _ x0 idx upd (ix2 b j) fun k hk => ?_
  rw [eq_ix2 k] at hk
  exact hj _ ((set_lands wf idx pos hpos hidx (k 0) b (k 1) j).1 hk).2

end Cert.Polar
-- ==== Proof.Rows.lean ====
/- The encoder's rows. Bit `j` of `row s k` says whether message place `k` enters position `j` of the polar transform
   after `s` stages: the reference's tables, followed for one message place at a time, a row packed into one number.
   The facts about the reference's tables that the value proof needs are here, each decided over its whole table. -/
module

public import proofs.«01_k».proof.ReferenceIdeal
public import Mathlib.Data.Nat.Bitwise

@[expose] public noncomputable section

-- the packed rows have 1024 bits
set_option exponentiation.threshold 1025

namespace Cert.Polar

open Cert.ReferenceIdeal

/-! ## A check over an initial segment of the numbers -/

/-- Whether `p` holds of every number below `n`. -/
def every (p : ℕ → Bool) (n : ℕ) : Bool := Nat.rec true (fun k r => p k && r) n

/-- What `every` decides. -/
theorem every_spec {p : ℕ → Bool} {n : ℕ} (h : every p n = true) : ∀ k < n, p k = true := by
  induction n with
  | zero => exact fun k hk => absurd hk (Nat.not_lt_zero k)
  | succ n ih =>
    have h' : (p n && every p n) = true := h
    rw [Bool.and_eq_true] at h'
    intro k hk
    rcases Nat.lt_succ_iff_lt_or_eq.1 hk with hk | rfl
    · exact ih h'.2 k hk
    · exact h'.1

/-! ## The reference's tables -/

/-- The position that information place `p` is scattered to: message places first, then the eleven check bits. -/
def pos (p : ℕ) : ℕ := (lit1t p).toNat
/-- Whether message place `k` enters check bit `c`. -/
def gen (k c : ℕ) : Bool := lit0t (k * 11 + c) == 1#32
/-- The position that stage `s` adds to position `j`. -/
def src (s j : ℕ) : ℕ := (lit2t (s * 1025 + j)).toNat
/-- The first interleaver. -/
def jsb (j : ℕ) : ℕ := (lit3t j).toNat
/-- The second interleaver. -/
def jtri (j : ℕ) : ℕ := (lit4t j).toNat

/-- The positions below 1024 whose bit `s` is clear: those that stage `s` adds to. -/
def mask (s : ℕ) : ℕ := (2 ^ 1024 - 1) / (2 ^ 2 ^ s + 1)

/-- The positions are below 1024. -/
theorem pos_lt : ∀ p < 523, pos p < 1024 := fun p hp =>
  of_decide_eq_true (every_spec (p := fun p => decide (pos p < 1024)) (n := 523) (by decide +kernel) p hp)

/-- The positions increase, so that they are distinct. -/
theorem pos_step : ∀ p < 522, pos p < pos (p + 1) := fun p hp =>
  of_decide_eq_true (every_spec (p := fun p => decide (pos p < pos (p + 1))) (n := 522) (by decide +kernel) p hp)

/-- A smaller information place goes to a smaller position. -/
theorem pos_mono {p q : ℕ} (h : p < q) (hq : q < 523) : pos p < pos q := by
  induction q with
  | zero => exact absurd h (Nat.not_lt_zero p)
  | succ q ih =>
    have hs := pos_step q (by omega)
    rcases Nat.lt_succ_iff_lt_or_eq.1 h with h | rfl
    · exact (ih h (by omega)).trans hs
    · exact hs

/-- Distinct information places go to distinct positions. -/
theorem pos_inj {p q : ℕ} (hp : p < 523) (hq : q < 523) (h : pos p = pos q) : p = q := by
  rcases Nat.lt_trichotomy p q with l | l | l
  · exact absurd h (Nat.ne_of_lt (pos_mono l hq))
  · exact l
  · exact absurd h (Nat.ne_of_gt (pos_mono l hp))

/-- The generator's entries are 0 and 1. -/
theorem gen_entry : ∀ i < 5632, lit0t i = if lit0t i == 1#32 then 1#32 else 0#32 := fun i hi =>
  of_decide_eq_true (every_spec (p := fun i => decide (lit0t i = if lit0t i == 1#32 then 1#32 else 0#32)) (n := 5632)
    (by decide +kernel) i hi)

/-- Stage `s` adds position `j + 2 ^ s` to the positions in the mask, and the zero column to the others. -/
theorem src_eq : ∀ s < 10, ∀ j < 1025, src s j = if (mask s).testBit j then j + 2 ^ s else 1024 := fun s hs j hj =>
  of_decide_eq_true (every_spec (n := 1025)
    (p := fun j => decide (src s j = if (mask s).testBit j then j + 2 ^ s else 1024))
    (every_spec (n := 10)
      (p := fun s => every (fun j => decide (src s j = if (mask s).testBit j then j + 2 ^ s else 1024)) 1025)
      (by decide +kernel) s hs) j hj)

/-- A masked position has its partner below 1024, so that every position a stage adds is at most 1024. -/
theorem src_lt {s j : ℕ} (hs : s < 10) (hj : j < 1025) : src s j < 1025 := by
  have h := every_spec (n := 1025) (p := fun j => !(mask s).testBit j || decide (j + 2 ^ s < 1025))
    (every_spec (n := 10) (p := fun s => every (fun j => !(mask s).testBit j || decide (j + 2 ^ s < 1025)) 1025)
      (by decide +kernel) s hs) j hj
  rw [src_eq s hs j hj]
  cases hm : (mask s).testBit j
  · exact Nat.lt_succ_self 1024
  · rw [hm] at h
    exact of_decide_eq_true h

/-- The masks are below 2 ^ 1024. -/
theorem mask_lt (s : ℕ) : mask s < 2 ^ 1024 := by
  unfold mask
  exact Nat.lt_of_le_of_lt (Nat.div_le_self _ _) (Nat.sub_lt (Nat.two_pow_pos _) Nat.one_pos)

/-- The first interleaver stays below 1024. -/
theorem jsb_lt : ∀ j < 1024, jsb j < 1024 := fun j hj =>
  of_decide_eq_true (every_spec (p := fun j => decide (jsb j < 1024)) (n := 1024) (by decide +kernel) j hj)

/-- The second interleaver stays below 1024. -/
theorem jtri_lt : ∀ j < 1024, jtri j < 1024 := fun j hj =>
  of_decide_eq_true (every_spec (p := fun j => decide (jtri j < 1024)) (n := 1024) (by decide +kernel) j hj)

/-! ## The rows -/

/-- The positions of the check bits that message place `k` enters, of the first `n`. -/
def checks (k n : ℕ) : ℕ := Nat.rec 0 (fun c r => r ^^^ bif gen k c then 2 ^ pos (512 + c) else 0) n

/-- One stage on a packed row. -/
def stage (s r : ℕ) : ℕ := r ^^^ ((r >>> 2 ^ s) &&& mask s)

/-- The packed row of message place `k` after `s` stages. -/
def row (s k : ℕ) : ℕ := Nat.rec (2 ^ pos k ^^^ checks k 11) stage s

/-- No check bit is set at a position that is no check bit's. -/
theorem testBit_checks_miss {k j : ℕ} {n : ℕ} (h : ∀ c < n, pos (512 + c) ≠ j) : (checks k n).testBit j = false := by
  induction n with
  | zero => exact Nat.zero_testBit j
  | succ n ih =>
    have e : checks k (n + 1) = checks k n ^^^ bif gen k n then 2 ^ pos (512 + n) else 0 := rfl
    rw [e, Nat.testBit_xor, ih fun c hc => h c (hc.trans n.lt_succ_self)]
    cases gen k n
    · simp
    · simp [Nat.testBit_two_pow, h n n.lt_succ_self]

/-- At a check bit's position stands whether message place `k` enters that check bit. -/
theorem testBit_checks_hit {k c : ℕ} {n : ℕ} (hn : n ≤ 11) (hc : c < n) : (checks k n).testBit (pos (512 + c)) = gen k c := by
  induction n with
  | zero => exact absurd hc (Nat.not_lt_zero c)
  | succ n ih =>
    have e : checks k (n + 1) = checks k n ^^^ bif gen k n then 2 ^ pos (512 + n) else 0 := rfl
    rw [e, Nat.testBit_xor]
    rcases Nat.lt_succ_iff_lt_or_eq.1 hc with hc | rfl
    · have hne : pos (512 + n) ≠ pos (512 + c) := Nat.ne_of_gt (pos_mono (by omega) (by omega))
      rw [ih (by omega) hc]
      cases gen k n
      · simp
      · simp [Nat.testBit_two_pow, hne]
    · rw [testBit_checks_miss fun c' hc' => Nat.ne_of_lt (pos_mono (by omega) (by omega))]
      cases gen k c
      · simp
      · simp [Nat.testBit_two_pow]

/-- The check positions are below 1024. -/
theorem checks_lt (k : ℕ) {n : ℕ} (hn : n ≤ 11) : checks k n < 2 ^ 1024 := by
  induction n with
  | zero => exact Nat.two_pow_pos 1024
  | succ n ih =>
    have e : checks k (n + 1) = checks k n ^^^ bif gen k n then 2 ^ pos (512 + n) else 0 := rfl
    rw [e]
    refine Nat.xor_lt_two_pow (ih (by omega)) ?_
    cases gen k n
    · exact Nat.two_pow_pos 1024
    · exact Nat.pow_lt_pow_right (by omega) (pos_lt _ (by omega))

/-- A row occupies the positions below 1024. -/
theorem row_lt (s : ℕ) {k : ℕ} (hk : k < 512) : row s k < 2 ^ 1024 := by
  induction s with
  | zero =>
    exact Nat.xor_lt_two_pow (Nat.pow_lt_pow_right (by omega) (pos_lt _ (by omega))) (checks_lt k (le_refl 11))
  | succ s ih =>
    have e : row (s + 1) k = row s k ^^^ ((row s k >>> 2 ^ s) &&& mask s) := rfl
    rw [e]
    exact Nat.xor_lt_two_pow ih (Nat.and_lt_two_pow _ (mask_lt s))

/-- The zero column is never set. -/
theorem row_zero_column (s : ℕ) {k : ℕ} (hk : k < 512) : (row s k).testBit 1024 = false :=
  Nat.testBit_lt_two_pow (row_lt s hk)

/-- One stage of the transform on a row, as the reference's table states it. -/
theorem row_stage {s j k : ℕ} (hs : s < 10) (hj : j < 1025) (hk : k < 512) :
    (row (s + 1) k).testBit j = ((row s k).testBit j ^^ (row s k).testBit (src s j)) := by
  have e : row (s + 1) k = row s k ^^^ ((row s k >>> 2 ^ s) &&& mask s) := rfl
  rw [e, Nat.testBit_xor, Nat.testBit_and, Nat.testBit_shiftRight, src_eq s hs j hj, Nat.add_comm (2 ^ s) j]
  cases (mask s).testBit j
  · simp [row_zero_column s hk]
  · simp

/-- A message place's row starts with that place's own position, and no other message place's. -/
theorem row_start_message {k p : ℕ} (hk : k < 512) (hp : p < 512) : (row 0 k).testBit (pos p) = decide (k = p) := by
  have e : row 0 k = 2 ^ pos k ^^^ checks k 11 := rfl
  rw [e, Nat.testBit_xor, Nat.testBit_two_pow,
    testBit_checks_miss fun c hc => Nat.ne_of_gt (pos_mono (by omega) (by omega)), Bool.xor_false]
  exact decide_eq_decide.2 ⟨pos_inj (by omega) (by omega), congrArg pos⟩

/-- It starts with the check bits it enters. -/
theorem row_start_check {k c : ℕ} (hk : k < 512) (hc : c < 11) : (row 0 k).testBit (pos (512 + c)) = gen k c := by
  have e : row 0 k = 2 ^ pos k ^^^ checks k 11 := rfl
  rw [e, Nat.testBit_xor, Nat.testBit_two_pow, testBit_checks_hit (le_refl 11) hc,
    decide_eq_false (Nat.ne_of_lt (pos_mono (by omega) (by omega))), Bool.false_xor]

/-- It starts with no position that carries no information. -/
theorem row_start_frozen {k j : ℕ} (hk : k < 512) (hj : ∀ p < 523, pos p ≠ j) : (row 0 k).testBit j = false := by
  have e : row 0 k = 2 ^ pos k ^^^ checks k 11 := rfl
  rw [e, Nat.testBit_xor, Nat.testBit_two_pow, testBit_checks_miss fun c hc => hj _ (by omega),
    decide_eq_false (hj k (by omega))]
  rfl

end Cert.Polar
-- ==== Proof.RefValue.lean ====
/- The reference's value: element (b, n) of its result is the parity of message b's places that the encoder's packed row
   selects at the position column n reads. The reference's operations are read at an element one after the other: the
   message as words, the check bits, the scatter to positions, ten stages, two interleavers. -/
module

public import proofs.«01_k».proof.Proof.Gen.ReferenceIdeal.Run
public import proofs.«01_k».proof.Proof.Columns
public import proofs.«01_k».proof.Proof.Message
public import proofs.«01_k».proof.Proof.Rows
public import Idealize.ShloMosaic.Lib.StackMember
public import Idealize.ShloMosaic.Lib.Routing.Words

@[expose] public noncomputable section

set_option exponentiation.threshold 1025

namespace Cert.Polar

open Cert.ReferenceIdeal Cert.ReferenceIdeal.Gen Cert.ReferenceIdeal.Value
open Idealize.ShloMosaic Idealize.ShloMosaic.ValueIdx Idealize.SL.Sem

/-! ## Bits as words -/

/-- A bit as a word. -/
def bitW (p : Bool) : BitVec 32 := BitVec.ofNat 32 p.toNat

/-- The exclusive or of two bits' words is the word of the bits' exclusive or. -/
theorem xori_bitW (p q : Bool) : IntOp.xori (bitW p) (bitW q) = bitW (p ^^ q) := by
  cases p <;> cases q <;> rfl

/-- A bit's word, converted to a real, is the bit. -/
theorem sitofp_bitW (p : Bool) : (((bitW p).toInt : ℝ) : EReal) = bitE p := by
  rw [bitE_eq]
  cases p
  · simp [bitW]
  · have h : (bitW true).toInt = 1 := by decide
    rw [h]
    simp

/-- A small natural number, converted to a word, is that number. -/
theorem fptosi_nat {n : ℕ} (hn : n < 2 ^ 31) : Ideal.fptosi 32 ((n : ℝ) : EReal) = BitVec.ofNat 32 n := by
  have h : Ideal.toIntClamped (-(2 ^ (32 - 1) : ℕ)) ((2 ^ (32 - 1) : ℕ) - 1) ((n : ℝ) : EReal) = (n : ℤ) := by
    show max _ (min _ (if 0 ≤ (n : ℝ) then ⌊(n : ℝ)⌋ else ⌈(n : ℝ)⌉)) = (n : ℤ)
    rw [if_pos (Nat.cast_nonneg n), Int.floor_natCast]
    omega
  unfold Ideal.fptosi
  rw [h, BitVec.ofInt_natCast]

/-- A bit, converted to a word, is the bit's word. -/
theorem fptosi_bitE (p : Bool) : Ideal.fptosi 32 (bitE p) = bitW p := by
  rw [bitE_eq, fptosi_nat (lt_of_le_of_lt (Bool.toNat_le p) (by decide))]
  rfl

/-! ## The message -/

/-- The parity of message `b`'s places that the rows select at position `j` after `s` stages. -/
def bitAt (X : S4096x512.Idx → EReal) (s : ℕ) (b : Fin 4096) (j : ℕ) : Bool :=
  par (msg X b) (fun k => (row s k).testBit j) 512

/-- One stage's exclusive or, on the parities. -/
theorem bitAt_stage (X : S4096x512.Idx → EReal) (b : Fin 4096) {s j : ℕ} (hs : s < 10) (hj : j < 1025) :
    bitAt X (s + 1) b j = (bitAt X s b j ^^ bitAt X s b (src s j)) := by
  unfold bitAt
  rw [← par_xor]
  exact par_congr fun k hk => row_stage hs hj hk

/-! ## The stages -/

/-- A table's word is the number it holds. -/
theorem ofNat_toNat_word (x : BitVec 32) : x = BitVec.ofNat 32 x.toNat := by
  rw [BitVec.ofNat_toNat, BitVec.setWidth_eq]

/-- A stage's column numbers as the reference takes them: the negative ones wrapped. -/
def stageIndex (r : IVec S1025 32) : IVec S1025x1 32 :=
  broadcastInDim S1025x1 ![0] bcast_S1025_S1025x1_0 (select (cmpi .slt r (broadcastInDim S1025 ![] bcast_S_S1025 (constantI S_ 32 0#32))) (addi r (broadcastInDim S1025 ![] bcast_S_S1025 (constantI S_ 32 1025#32))) r)

/-- A stage as the reference states it: the columns taken and added modulo two. -/
def stageTerm (x : IVec S4096x1025 32) (idx : IVec S1025x1 32) : IVec S4096x1025 32 :=
  xori x (select (broadcastInDim S4096x1025 ![1] bcast_S1025_S4096x1025_1 (Host.reduce IntOp.andi (andi (cmpi .sge idx (broadcastInDim S1025x1 ![] bcast_S_S1025x1 (constantI S_ 32 0#32))) (cmpi .sle idx (broadcastInDim S1025x1 ![0, 1] bcast_S1x1_S1025x1_0_1 (broadcastInDim S1x1 ![1] bcast_S1_S1x1_1 (constantI S1 32 1024#32))))) (constantI S_ 1 1#1) reducesTo_S1025x1_S1025_d1 h_S_)) (Host.gather gather_S4096x1025_S1025x1_S4096x1025_0_1_n_n_1_1_40961 x idx) (broadcastInDim S4096x1025 ![] bcast_S_S4096x1025 (constantI S_ 32 2147483648#32)))

/-- Row `s` of the table of stages, cut out and flattened, holds stage `s`'s column numbers. -/
theorem tableRow_apply {s : ℕ} (hs : s < 10) (h : S10x1025.Slices ![s, 0] S1x1025) (h' : S1x1025.ShapeCasts S1025) (j : Fin 1025) :
    shapeCast S1025 (extractStridedSlice S1x1025 ![s, 0] (fun i => lit2 (S10x1025.rowMajor i)) h) h' (ix1 j)
      = BitVec.ofNat 32 (src s j.val) := by
  rw [shapeCast_apply _ h' (ix1 j) (ix2 (0 : Fin 1) j) (by
      rw [Shape.rowMajor_val_two, Shape.rowMajor_val_one]
      show 0 * 1025 + j.val = j.val
      omega),
    extractStridedSlice_apply ![s, 0] _ h (ix2 (0 : Fin 1) j) (ix2 (⟨s, hs⟩ : Fin 10) j) (fun a => by
      match a with
      | ⟨0, _⟩ => rfl
      | ⟨1, _⟩ => exact (Nat.zero_add _).symm)]
  have e : (S10x1025.rowMajor (ix2 (⟨s, hs⟩ : Fin 10) j)).val = s * 1025 + j.val := by
    rw [Shape.rowMajor_val_two]
    rfl
  show lit2t (S10x1025.rowMajor (ix2 (⟨s, hs⟩ : Fin 10) j)).val = _
  rw [e]
  exact ofNat_toNat_word _

/-- The wrapped column numbers of stage `s` are the table's. -/
theorem stageIndex_apply {s : ℕ} (hs : s < 10) (r : IVec S1025 32)
    (hr : ∀ j : Fin 1025, r (ix1 j) = BitVec.ofNat 32 (src s j.val)) (j : Fin 1025) :
    stageIndex r (ix2 j (0 : Fin 1)) = BitVec.ofNat 32 (src s j.val) :=
  wrapped_index bcast_S1025_S1025x1_0 r _ _ (fun _ => rfl) j _ (hr j) ((src_lt hs j.isLt).trans (by decide))

/-- A stage takes the parities after `s` stages to the parities after one more. -/
theorem stage_apply (X : S4096x512.Idx → EReal) {s : ℕ} (hs : s < 10) (x : IVec S4096x1025 32) (r : IVec S1025 32)
    (hx : ∀ b j, x (ix2 b j) = bitW (bitAt X s b j.val))
    (hr : ∀ j : Fin 1025, r (ix1 j) = BitVec.ofNat 32 (src s j.val)) (b : Fin 4096) (j : Fin 1025) :
    stageTerm x (stageIndex r) (ix2 b j) = bitW (bitAt X (s + 1) b j.val) := by
  have ht := take_columns gather_S4096x1025_S1025x1_S4096x1025_0_1_n_n_1_1_40961_wf (by decide) x
    (broadcastInDim S4096x1025 ![] bcast_S_S4096x1025 (constantI S_ 32 2147483648#32)) (stageIndex r)
    (broadcastInDim S1025x1 ![] bcast_S_S1025x1 (constantI S_ 32 0#32))
    (broadcastInDim S1025x1 ![0, 1] bcast_S1x1_S1025x1_0_1 (broadcastInDim S1x1 ![1] bcast_S1_S1x1_1 (constantI S1 32 1024#32)))
    (constantI S_ 1 1#1) reducesTo_S1025x1_S1025_d1 h_S_ bcast_S1025_S4096x1025_1 (fun _ => rfl) (fun _ => rfl) (fun _ => rfl)
    (fun j => ⟨src s j.val, src_lt hs j.isLt⟩) (stageIndex_apply hs r hr) b j
  have e : stageTerm x (stageIndex r) (ix2 b j) = IntOp.xori (x (ix2 b j)) (x (ix2 b ⟨src s j.val, src_lt hs j.isLt⟩)) :=
    congrArg (IntOp.xori (x (ix2 b j))) ht
  rw [e, hx, hx, xori_bitW, bitAt_stage X b hs j.isLt]

/-! ## The interleavers -/

/-- An interleaver's column numbers as the reference takes them: the negative ones wrapped. -/
def permIndex (r : IVec S1024 32) : IVec S1024x1 32 :=
  broadcastInDim S1024x1 ![0] bcast_S1024_S1024x1_0 (select (cmpi .slt r (broadcastInDim S1024 ![] bcast_S_S1024 (constantI S_ 32 0#32))) (addi r (broadcastInDim S1024 ![] bcast_S_S1024 (constantI S_ 32 1024#32))) r)

/-- An interleaver as the reference states it: the columns taken. -/
def permTerm (x : IVec S4096x1024 32) (idx : IVec S1024x1 32) : IVec S4096x1024 32 :=
  select (broadcastInDim S4096x1024 ![1] bcast_S1024_S4096x1024_1 (Host.reduce IntOp.andi (andi (cmpi .sge idx (broadcastInDim S1024x1 ![] bcast_S_S1024x1 (constantI S_ 32 0#32))) (cmpi .sle idx (broadcastInDim S1024x1 ![0, 1] bcast_S1x1_S1024x1_0_1 (broadcastInDim S1x1 ![1] bcast_S1_S1x1_1 (constantI S1 32 1023#32))))) (constantI S_ 1 1#1) reducesTo_S1024x1_S1024_d1 h_S_)) (Host.gather gather_S4096x1024_S1024x1_S4096x1024_0_1_n_n_1_1_40961 x idx) (broadcastInDim S4096x1024 ![] bcast_S_S4096x1024 (constantI S_ 32 2147483648#32))

/-- An interleaver read at an element: the same row, at the column its table holds. -/
theorem perm_apply (x : IVec S4096x1024 32) (r : IVec S1024 32) (p : ℕ → ℕ) (hp : ∀ j < 1024, p j < 1024)
    (hr : ∀ j : Fin 1024, r (ix1 j) = BitVec.ofNat 32 (p j.val)) (b : Fin 4096) (j : Fin 1024) :
    permTerm x (permIndex r) (ix2 b j) = x (ix2 b ⟨p j.val, hp _ j.isLt⟩) :=
  take_columns gather_S4096x1024_S1024x1_S4096x1024_0_1_n_n_1_1_40961_wf (by decide) x
    (broadcastInDim S4096x1024 ![] bcast_S_S4096x1024 (constantI S_ 32 2147483648#32)) (permIndex r)
    (broadcastInDim S1024x1 ![] bcast_S_S1024x1 (constantI S_ 32 0#32))
    (broadcastInDim S1024x1 ![0, 1] bcast_S1x1_S1024x1_0_1 (broadcastInDim S1x1 ![1] bcast_S1_S1x1_1 (constantI S1 32 1023#32)))
    (constantI S_ 1 1#1) reducesTo_S1024x1_S1024_d1 h_S_ bcast_S1024_S4096x1024_1 (fun _ => rfl) (fun _ => rfl) (fun _ => rfl)
    (fun j => ⟨p j.val, hp _ j.isLt⟩)
    (fun j => wrapped_index bcast_S1024_S1024x1_0 r _ _ (fun _ => rfl) j _ (hr j) ((hp _ j.isLt).trans (by decide))) b j

/-- A table of 1024 words, read at an index, holds the number at that position. -/
theorem table_apply (t : ℕ → BitVec 32) (l : Fin 1024 → BitVec 32) (hl : ∀ i, l i = t i.val) (j : Fin 1024) :
    (fun i : S1024.Idx => l (S1024.rowMajor i)) (ix1 j) = BitVec.ofNat 32 (t j.val).toNat := by
  have e : (S1024.rowMajor (ix1 j)).val = j.val := by rw [Shape.rowMajor_val_one]
  refine (hl (S1024.rowMajor (ix1 j))).trans ?_
  rw [show t (S1024.rowMajor (ix1 j)).val = t j.val from congrArg t e]
  exact ofNat_toNat_word _

/-! ## The check bits -/

/-- The check bits as the reference states them, from the remainders `r` and the modulus `two`: the remainder, the modulus
    added where the remainder's sign is not the modulus's. -/
def checkTerm (r : IVec S4096x11 32) (two : IVec S_ 32) : IVec S4096x11 32 :=
  select (andi (cmpi .ne (cmpi .slt r (broadcastInDim S4096x11 ![] bcast_S_S4096x11 (constantI S_ 32 0#32))) (broadcastInDim S4096x11 ![] bcast_S_S4096x11 (cmpi .slt two (constantI S_ 32 0#32)))) (cmpi .ne r (broadcastInDim S4096x11 ![] bcast_S_S4096x11 (constantI S_ 32 0#32)))) (addi r (broadcastInDim S4096x11 ![] bcast_S_S4096x11 two)) r

/-- A remainder that is a bit is the check bit. -/
theorem checkTerm_apply (r : IVec S4096x11 32) (two : IVec S_ 32) (htwo : ∀ i, two i = 2#32) (i : S4096x11.Idx) (p : Bool)
    (hr : r i = bitW p) : checkTerm r two i = bitW p := by
  show Scalar.select (IntOp.andi (IntOp.cmpi .ne (IntOp.cmpi .slt (r i) 0#32) (IntOp.cmpi .slt (two _) 0#32))
    (IntOp.cmpi .ne (r i) 0#32)) (IntOp.addi (r i) (two _)) (r i) = _
  rw [htwo, hr]
  cases p <;> decide

variable (V0 : Valuation τ sig (Elt Ideal))

/-- The argument's entries, as extended reals. -/
abbrev argX : S4096x512.Idx → EReal := V0 (Proc.devRef .tc main_arg0)

/-- The reference's result as a term: a tenth stage, the zero column dropped, both interleavers, and to reals. -/
def resultTerm : FVec Ideal S4096x1024 .f32 :=
  sitofp .f32 (permTerm (permTerm (extractStridedSlice S4096x1024 ![0, 0]
    (stageTerm (res_main_v52 V0) (stageIndex (res_main_v54 V0))) slices_S4096x1025_S4096x1024_0_0)
    (permIndex (res_main_c_2 V0))) (permIndex (res_main_c_3 V0)))

variable {V0} (hX : ∀ i, argX V0 i = 0 ∨ argX V0 i = 1)
include hX

/-- The message's words are its bits. -/
theorem word_apply (b : Fin 4096) (k : Fin 512) : res_main_v0 V0 (ix2 b k) = bitW (msg (argX V0) b k.val) := by
  show Ideal.fptosi 32 (argX V0 (ix2 b k)) = _
  rw [arg_eq_msg hX, fptosi_bitE]

/-- The remainders are the parities of the places that enter each check bit. -/
theorem remainder_apply (b : Fin 4096) (c : Fin 11) :
    res_main_call0_v4 V0 (ix2 b c) = bitW (par (msg (argX V0) b) (fun k => gen k c.val) 512) := by
  have hd : Host.dotGeneral (F := Ideal) dot_S4096x512_S512x11_S4096x11_1_0_0_1_n_n none (sitofp .f32 (res_main_v0 V0))
      (sitofp .f32 (fun i => lit0 (S512x11.rowMajor i))) (ix2 b c)
      = ((cnt (msg (argX V0) b) (fun k => gen k c.val) 512 : ℝ) : EReal) := by
    rw [← sum_eq_cnt]
    refine (StackMember.dotGeneral_plain_apply (m := 4096) (k := 512) (n := 11) none _ _ b c).trans (Finset.sum_congr rfl fun k _ => ?_)
    have e0 : (sitofp .f32 (res_main_v0 V0) : FVec Ideal S4096x512 .f32) (ix2 b k) = bitE (msg (argX V0) b k.val) := by
      show ((((res_main_v0 V0 (ix2 b k) : BitVec 32)).toInt : ℝ) : EReal) = _
      rw [word_apply hX, sitofp_bitW]
    have e1 : (sitofp .f32 (fun i => lit0 (S512x11.rowMajor i)) : FVec Ideal S512x11 .f32) (ix2 k c) = bitE (gen k.val c.val) := by
      have e : (S512x11.rowMajor (ix2 k c)).val = k.val * 11 + c.val := by rw [Shape.rowMajor_val_two]; rfl
      show (((lit0t (S512x11.rowMajor (ix2 k c)).val).toInt : ℝ) : EReal) = _
      have hk := k.isLt
      have hc := c.isLt
      rw [e, gen_entry _ (by omega), ← sitofp_bitW]
      unfold gen
      cases lit0t (k.val * 11 + c.val) == 1#32 <;> rfl
    rw [e0, e1]
  show IntOp.remsi .host (Ideal.fptosi 32 (Host.dotGeneral (F := Ideal) dot_S4096x512_S512x11_S4096x11_1_0_0_1_n_n none
    (sitofp .f32 (res_main_v0 V0)) (sitofp .f32 (fun i => lit0 (S512x11.rowMajor i))) (ix2 b c))) 2#32 = _
  have hc := cnt_le (msg (argX V0) b) (fun k => gen k c.val) 512
  rw [hd, fptosi_nat (by omega), Routing.remsi_word .host (b := 2) (by omega) (by decide) (by decide), cnt_mod_two]
  rfl

/-! ## The positions before the first stage -/

/-- The information places' words: the message, then the check bits. -/
def infoTerm (u : IVec S4096x512 32) (c : IVec S4096x11 32) : IVec S4096x523 32 :=
  concatenate S4096x523 1 [⟨S4096x512, u⟩, ⟨S4096x11, c⟩] concatenates_S4096x512_S4096x11_S4096x523_d1

/-- The positions' words: the information places' scattered to their positions, and the zero column after them. -/
def positionsTerm (r : IVec S523 32) (u : IVec S4096x523 32) : IVec S4096x1025 32 :=
  concatenate S4096x1025 1 [⟨S4096x1024, (Host.scatter scatter_S4096x1024_S523x1_S4096x523_0_1_1_1 (fun _ b => b) (broadcastInDim S4096x1024 ![] bcast_S_S4096x1024 (constantI S_ 32 0#32)) (broadcastInDim S523x1 ![0] bcast_S523_S523x1_0 (select (cmpi .slt r (broadcastInDim S523 ![] bcast_S_S523 (constantI S_ 32 0#32))) (addi r (broadcastInDim S523 ![] bcast_S_S523 (constantI S_ 32 1024#32))) r)) u)⟩, ⟨S4096x1, (broadcastInDim S4096x1 ![] bcast_S_S4096x1 (constantI S_ 32 0#32))⟩] concatenates_S4096x1024_S4096x1_S4096x1025_d1

/-- The information places' words are the rows' parities at the places' positions. -/
theorem info_apply (b : Fin 4096) (p : Fin 523) :
    infoTerm (res_main_v0 V0) (checkTerm (res_main_call0_v4 V0) (res_main_call0_v2 V0)) (ix2 b p)
      = bitW (bitAt (argX V0) 0 b (pos p.val)) := by
  have hp := p.isLt
  by_cases h : p.val < 512
  · refine (concatenate_pair_apply_left (t := S4096x523) (s₁ := S4096x512) (s₂ := S4096x11) 1 _ _ concatenates_S4096x512_S4096x11_S4096x523_d1 (ix2 b p) rfl
      (ix2 b (⟨p.val, h⟩ : Fin 512)) (fun a => by
        match a with
        | ⟨0, _⟩ => rfl
        | ⟨1, _⟩ => rfl)).trans ?_
    rw [word_apply hX]
    refine congrArg bitW ?_
    unfold bitAt
    rw [par_congr (g := fun k => decide (k = p.val)) fun k hk => row_start_message hk h, par_single _ h]
  · refine (concatenate_pair_apply_right (t := S4096x523) (s₁ := S4096x512) (s₂ := S4096x11) 1 _ _ concatenates_S4096x512_S4096x11_S4096x523_d1 (ix2 b p) rfl rfl
      (ix2 b (⟨p.val - 512, by omega⟩ : Fin 11)) (fun a ha => by
        match a, ha with
        | ⟨0, _⟩, _ => rfl
        | ⟨1, _⟩, ha => exact absurd rfl ha) (by
        show p.val - 512 + 512 = p.val
        omega)).trans ?_
    rw [checkTerm_apply _ (res_main_call0_v2 V0) (fun _ => rfl) _ _ (remainder_apply hX b _)]
    have key : ∀ k < 512, (row 0 k).testBit (pos p.val) = gen k (p.val - 512) := fun k hk => by
      have h' := row_start_check hk (c := p.val - 512) (by omega)
      rwa [show 512 + (p.val - 512) = p.val by omega] at h'
    exact congrArg bitW (par_congr key).symm

/-- The positions' words are the rows' parities before the first stage. -/
theorem start_apply (b : Fin 4096) (j : Fin 1025) : res_main_v16 V0 (ix2 b j) = bitW (bitAt (argX V0) 0 b j.val) := by
  show positionsTerm (res_main_c_0 V0) (infoTerm (res_main_v0 V0) (checkTerm (res_main_call0_v4 V0) (res_main_call0_v2 V0)))
    (ix2 b j) = _
  have hj := j.isLt
  have hfrozen : ∀ j' : ℕ, (∀ p < 523, pos p ≠ j') → bitAt (argX V0) 0 b j' = false := fun j' h => by
    unfold bitAt
    rw [par_congr (g := fun _ => false) fun k hk => row_start_frozen hk h, par_false]
  by_cases h : j.val < 1024
  · refine (concatenate_pair_apply_left (t := S4096x1025) (s₁ := S4096x1024) (s₂ := S4096x1) 1 _ _ concatenates_S4096x1024_S4096x1_S4096x1025_d1 (ix2 b j) rfl
      (ix2 b (⟨j.val, h⟩ : Fin 1024)) (fun a => by
        match a with
        | ⟨0, _⟩ => rfl
        | ⟨1, _⟩ => rfl)).trans ?_
    have hpos : ∀ p : Fin 523, pos p.val < 2 ^ 31 := fun p => (pos_lt _ p.isLt).trans (by decide)
    have hrow : ∀ p : Fin 523, (res_main_c_0 V0 : IVec S523 32) (ix1 p) = BitVec.ofNat 32 (pos p.val) := fun p => by
      have e : (S523.rowMajor (ix1 p)).val = p.val := by rw [Shape.rowMajor_val_one]
      show lit1t (S523.rowMajor (ix1 p)).val = _
      rw [e]
      exact ofNat_toNat_word _
    have hidx := fun p : Fin 523 => wrapped_index bcast_S523_S523x1_0 (res_main_c_0 V0)
      (broadcastInDim S523 ![] bcast_S_S523 (constantI S_ 32 0#32))
      (addi (res_main_c_0 V0) (broadcastInDim S523 ![] bcast_S_S523 (constantI S_ 32 1024#32))) (fun _ => rfl) p _ (hrow p) (hpos p)
    by_cases hp : ∃ p : Fin 523, pos p.val = j.val
    · obtain ⟨p, hp⟩ := hp
      refine (set_columns_hit scatter_S4096x1024_S523x1_S4096x523_0_1_1_1_wf _ _ _ (fun p => pos p.val) hpos hidx
        (fun p q hpq => Fin.ext (pos_inj p.isLt q.isLt hpq)) b p ⟨j.val, h⟩ hp).trans ?_
      rw [info_apply hX, hp]
    · refine (set_columns_miss scatter_S4096x1024_S523x1_S4096x523_0_1_1_1_wf _ _ _ (fun p => pos p.val) hpos hidx b ⟨j.val, h⟩
        (fun p hpj => hp ⟨p, hpj⟩)).trans ?_
      rw [hfrozen j.val fun p hp' hpj => hp ⟨⟨p, hp'⟩, hpj⟩]
      rfl
  · refine (concatenate_pair_apply_right (t := S4096x1025) (s₁ := S4096x1024) (s₂ := S4096x1) 1 _ _ concatenates_S4096x1024_S4096x1_S4096x1025_d1 (ix2 b j) rfl rfl
      (ix2 b (0 : Fin 1)) (fun a ha => by
        match a, ha with
        | ⟨0, _⟩, _ => rfl
        | ⟨1, _⟩, ha => exact absurd rfl ha) (by
        show 0 + 1024 = j.val
        omega)).trans ?_
    rw [hfrozen j.val fun p hp => by have := pos_lt p hp; omega]
    rfl

/-! ## The result -/

/-- After nine stages the words are the rows' parities. -/
theorem nine_stages (b : Fin 4096) (j : Fin 1025) : res_main_v52 V0 (ix2 b j) = bitW (bitAt (argX V0) 9 b j.val) := by
  have row_of : ∀ {s : ℕ} (hs : s < 10) (h : S10x1025.Slices ![s, 0] S1x1025) (j : Fin 1025), _ :=
    fun {s} hs h j => tableRow_apply hs h shapeCasts_S1x1025_S1025 j
  have h1 := stage_apply _ (by decide : 0 < 10) _ _ (start_apply hX) (row_of (by decide) slices_S10x1025_S1x1025_0_0)
  have h2 := stage_apply _ (by decide : 1 < 10) _ _ h1 (row_of (by decide) slices_S10x1025_S1x1025_1_0)
  have h3 := stage_apply _ (by decide : 2 < 10) _ _ h2 (row_of (by decide) slices_S10x1025_S1x1025_2_0)
  have h4 := stage_apply _ (by decide : 3 < 10) _ _ h3 (row_of (by decide) slices_S10x1025_S1x1025_3_0)
  have h5 := stage_apply _ (by decide : 4 < 10) _ _ h4 (row_of (by decide) slices_S10x1025_S1x1025_4_0)
  have h6 := stage_apply _ (by decide : 5 < 10) _ _ h5 (row_of (by decide) slices_S10x1025_S1x1025_5_0)
  have h7 := stage_apply _ (by decide : 6 < 10) _ _ h6 (row_of (by decide) slices_S10x1025_S1x1025_6_0)
  have h8 := stage_apply _ (by decide : 7 < 10) _ _ h7 (row_of (by decide) slices_S10x1025_S1x1025_7_0)
  have h9 := stage_apply _ (by decide : 8 < 10) _ _ h8 (row_of (by decide) slices_S10x1025_S1x1025_8_0)
  exact h9 b j

/-- The result is the encoder's parities: column `n` reads the position `jsb (jtri n)` after ten stages. -/
theorem result_apply (b : Fin 4096) (n : Fin 1024) :
    resultTerm V0 (ix2 b n) = bitE (bitAt (argX V0) 10 b (jsb (jtri n.val))) := by
  have h10 := stage_apply (argX V0) (by decide : 9 < 10) (res_main_v52 V0) (res_main_v54 V0) (nine_stages hX)
    (fun j => tableRow_apply (by decide : 9 < 10) slices_S10x1025_S1x1025_9_0 shapeCasts_S1x1025_S1025 j)
  have e : permTerm (permTerm (extractStridedSlice S4096x1024 ![0, 0]
      (stageTerm (res_main_v52 V0) (stageIndex (res_main_v54 V0))) slices_S4096x1025_S4096x1024_0_0)
      (permIndex (res_main_c_2 V0))) (permIndex (res_main_c_3 V0)) (ix2 b n)
      = bitW (bitAt (argX V0) 10 b (jsb (jtri n.val))) := by
    rw [perm_apply _ _ jtri (fun j hj => jtri_lt j hj) (table_apply lit4t lit4 fun _ => rfl),
      perm_apply _ _ jsb (fun j hj => jsb_lt j hj) (table_apply lit3t lit3 fun _ => rfl)]
    have hlt := jsb_lt _ (jtri_lt _ n.isLt)
    rw [extractStridedSlice_apply ![0, 0] _ slices_S4096x1025_S4096x1024_0_0 _
      (ix2 b (⟨jsb (jtri n.val), hlt.trans (by decide)⟩ : Fin 1025)) (fun a => by
        match a with
        | ⟨0, _⟩ => exact (Nat.zero_add _).symm
        | ⟨1, _⟩ => exact (Nat.zero_add _).symm)]
    exact h10 b _
  show (((permTerm (permTerm (extractStridedSlice S4096x1024 ![0, 0]
      (stageTerm (res_main_v52 V0) (stageIndex (res_main_v54 V0))) slices_S4096x1025_S4096x1024_0_0)
      (permIndex (res_main_c_2 V0))) (permIndex (res_main_c_3 V0)) (ix2 b n)).toInt : ℝ) : EReal) = _
  rw [e, sitofp_bitW]

end Cert.Polar
-- ==== Proof.Agreement.lean ====
/- The two programs on the same messages: what the precondition says of the argument, and the reference's run with its
   result written as the codeword that the packed rows of the encoder give, the form in which the kernel's run states its own. -/
module

public import proofs.«01_k».proof.Defs
public import proofs.«01_k».proof.Proof.KernelValue
public import proofs.«01_k».proof.Proof.RefValue
public import Idealize.ShloMosaic.Lib.IdealHost
public import Idealize.ShloMosaic.Lib.Quiescent

@[expose] public noncomputable section

set_option exponentiation.threshold 1025

namespace Cert.Polar

open Idealize.ShloMosaic Idealize.ShloMosaic.ValueIdx Idealize.ShloMosaic.StableHlo Idealize.SL.Sem

/-- The side condition of the precondition's own operations. -/
theorem pre_facts : Cert.Pre_bits.Facts := ⟨by decide⟩

/-- An array on which the precondition is all ones holds only zeros and ones. -/
theorem bits_of_pre [Cert.Pre_bits.Facts] (X : FVec Ideal Cert.Pre_bits.S4096x512 .f32)
    (h : Cert.Pre_bits.fn (F := Ideal) X = fun _ => 1#1) (i : Cert.Pre_bits.S4096x512.Idx) : X i = (0 : EReal) ∨ X i = (1 : EReal) := by
  have h1 : (BitVec.ofBool (decide (X i = Ideal.ofBits .f32 0x00000000#32)) ||| BitVec.ofBool (decide (X i = Ideal.ofBits .f32 0x3F800000#32))) = 1#1 :=
    congrFun h i
  rw [Ideal.ofBits_zero_f32, Ideal.ofBits_one_f32] at h1
  by_cases h0 : X i = (0 : EReal)
  · exact .inl h0
  · by_cases h2 : X i = (1 : EReal)
    · exact .inr h2
    · rw [decide_eq_false h0, decide_eq_false h2] at h1
      exact absurd h1 (by decide)

/-- The reference, run on messages of zeros and ones, ends with the codeword that the encoder's packed rows give, read through
    the two interleavers, and with its argument unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) (X : Dev Cert.ReferenceIdeal.nD → Cert.ReferenceIdeal.S4096x512.Idx → EReal)
    (hm : ∀ c : Dev Cert.ReferenceIdeal.nD, m ((c.tc : Thread Cert.ReferenceIdeal.nD Cert.ReferenceIdeal.τ).loc Cert.ReferenceIdeal.main_arg0) = X c)
    (hX : ∀ c i, X c i = 0 ∨ X c i = 1) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v60)
            = codeword (X c) (fun k n => (row 10 k).testBit (jsb (jtri n)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) := by
  have key : ∀ c : Dev Cert.ReferenceIdeal.nD,
      resultTerm (launchContents m c) = codeword (X c) (fun k n => (row 10 k).testBit (jsb (jtri n))) := by
    intro c
    have ha : argX (launchContents m c) = X c := hm c
    funext i
    obtain ⟨b, n, rfl⟩ : ∃ (b : Fin 4096) (n : Fin 1024), i = ix2 b n := ⟨i 0, i 1, eq_ix2 i⟩
    rw [result_apply (by rw [ha]; exact hX c), codeword_apply, ha]
    rfl
  exact (θ_run Cert.ReferenceIdeal.defs _ _).mono (fun _ h c => ⟨(h c).1.trans (key c), (h c).2⟩)
    (Cert.ReferenceIdeal.Value.run (F := Ideal) m ρ)

/-- The reference ends with its argument unchanged and every semaphore counter at zero, from any memory. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0))
        ∧ r.2.sem = fun _ => 0 :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference agree, once each entry of the kernel's matrix is known to be the encoder's bit at the position that
    its column reads. -/
theorem agree [Cert.Pre_bits.Facts]
    (hM : ∀ k < 512, ∀ n < 1024, (Cert.KernelIdeal.lit0t (k * 32 + n / 32)).toNat / 2 ^ (n % 32) % 2
      = ((row 10 k).testBit (jsb (jtri n))).toNat) :
    Cert.algebraic_KernelIdeal_ReferenceIdeal_pre_bits (hKernelIdeal := Cert.KernelIdeal.Gen.facts)
      (hReferenceIdeal := Cert.ReferenceIdeal.Gen.facts) := by
  intro m g m' g' hpre hagree
  have hX : ∀ c i, argArr m c i = 0 ∨ argArr m c i = 1 := fun c i => bits_of_pre _ (hpre c) i
  exact ⟨fun c => codeword (argArr m c) (fun k n => (row 10 k).testBit (jsb (jtri n))),
    kernel_run m g _ hM hX, reference_run m' g' (argArr m) hagree hX⟩

end Cert.Polar

end
-- ==== Proof.Matrix.lean ====
/- The kernel's constant matrix, 32 entries to a word, checked word by word against the encoder's rows. -/
module

public import proofs.«01_k».proof.KernelIdeal
public import proofs.«01_k».proof.Proof.Rows
public import Mathlib.Tactic.IntervalCases

@[expose] public noncomputable section

set_option exponentiation.threshold 1025

namespace Cert.Polar

/-- The position of the polar transform that column `n` of the codeword reads, through both interleavers. -/
def col (n : ℕ) : ℕ := jsb (jtri n)

/-- Every position is below 1024. -/
theorem col_lt (n : ℕ) (hn : n < 1024) : col n < 1024 := jsb_lt _ (jtri_lt n hn)

/-! ## Digits -/

/-- The numbers `g s`, `g (s + 1)`, …, `n` of them, as the digits of one number to the base `B`, the first in the lowest place. -/
def packed (B : ℕ) (g : ℕ → ℕ) (n : ℕ) : ℕ → ℕ :=
  Nat.rec (motive := fun _ => ℕ → ℕ) (fun _ => 0) (fun _ rest s => g s + B * rest (s + 1)) n

/-- A digit of the packed number is the number that was packed there. -/
theorem packed_digit (B : ℕ) (g : ℕ → ℕ) (n s j : ℕ) (hg : ∀ i < s + n, g i < B) (hj : j < n) :
    packed B g n s / B ^ j % B = g (s + j) := by
  induction n generalizing s j with
  | zero => omega
  | succ n ih =>
    have e : packed B g (n + 1) s = g s + B * packed B g n (s + 1) := rfl
    have hs := hg s (by omega)
    rw [e]
    cases j with
    | zero =>
      rw [Nat.pow_zero, Nat.div_one, Nat.add_mul_mod_self_left, Nat.mod_eq_of_lt hs, Nat.add_zero]
    | succ j =>
      rw [Nat.pow_succ, Nat.mul_comm (B ^ j) B, ← Nat.div_div_eq_div_mul, Nat.add_mul_div_left _ _ (by omega : 0 < B),
        Nat.div_eq_of_lt hs, Nat.zero_add, ih (s + 1) j (fun i hi => hg i (by omega)) (by omega), Nat.add_assoc, Nat.add_comm 1 j]

/-- A check at a number, the number computed once. -/
def at' (n : ℕ) (p : ℕ → Bool) : Bool := Nat.rec (p 0) (fun m _ => p (Nat.succ m)) n

/-- What `at'` decides. -/
theorem at'_eq (n : ℕ) (p : ℕ → Bool) : at' n p = p n := by
  cases n <;> rfl

/-! ## The check -/

/-- Bit `n` of the row `r`, the row read in the columns' order: `p` packs the positions that the columns read. -/
def columnBit (r p n : ℕ) : ℕ := (r.testBit (p / 1024 ^ n % 1024)).toNat

/-- Whether the matrix's word `w` of row `k` has the bits of the row `r`, the columns' positions packed in `p`. -/
def wordOk (k w r p : ℕ) : Bool :=
  Nat.beq (Cert.KernelIdeal.lit0t (k * 32 + w)).toNat (packed 2 (columnBit r p) 32 (32 * w))

/-- Whether the 64 rows from `64 * a` on are the encoder's. -/
def rowsOk (a : ℕ) : Bool :=
  at' (packed 1024 col 1024 0) fun p => every (fun k => at' (row 10 (64 * a + k)) fun r => every (fun w => wordOk (64 * a + k) w r p) 32) 64

/-- Rows 0 to 63. -/
theorem rows_0 : rowsOk 0 = true := by decide +kernel
/-- Rows 64 to 127. -/
theorem rows_1 : rowsOk 1 = true := by decide +kernel
/-- Rows 128 to 191. -/
theorem rows_2 : rowsOk 2 = true := by decide +kernel
/-- Rows 192 to 255. -/
theorem rows_3 : rowsOk 3 = true := by decide +kernel
/-- Rows 256 to 319. -/
theorem rows_4 : rowsOk 4 = true := by decide +kernel
/-- Rows 320 to 383. -/
theorem rows_5 : rowsOk 5 = true := by decide +kernel
/-- Rows 384 to 447. -/
theorem rows_6 : rowsOk 6 = true := by decide +kernel
/-- Rows 448 to 511. -/
theorem rows_7 : rowsOk 7 = true := by decide +kernel

/-- All of them. -/
theorem rows_ok : ∀ a < 8, rowsOk a = true := fun a ha => by
  interval_cases a
  exacts [rows_0, rows_1, rows_2, rows_3, rows_4, rows_5, rows_6, rows_7]

/-- The bit of the kernel's matrix in row `k`, column `n` is the encoder's: bit `n % 32` of the row's word `n / 32` is the bit of the
    encoder's row at the position that the column reads. -/
theorem matrix_eq (k : ℕ) (hk : k < 512) (n : ℕ) (hn : n < 1024) :
    (Cert.KernelIdeal.lit0t (k * 32 + n / 32)).toNat / 2 ^ (n % 32) % 2 = ((row 10 k).testBit (col n)).toNat := by
  have h := rows_ok (k / 64) (by omega)
  unfold rowsOk at h
  rw [at'_eq] at h
  have h1 := every_spec h (k % 64) (Nat.mod_lt _ (by decide))
  rw [at'_eq, show 64 * (k / 64) + k % 64 = k from Nat.div_add_mod k 64] at h1
  have e := Nat.eq_of_beq_eq_true (every_spec h1 (n / 32) (by omega))
  rw [e, packed_digit 2 _ 32 (32 * (n / 32)) (n % 32) (fun i _ => ?_) (Nat.mod_lt _ (by decide)), Nat.div_add_mod]
  · unfold columnBit
    rw [packed_digit 1024 col 1024 0 n (fun i hi => col_lt i (by omega)) hn, Nat.zero_add]
  · exact Bool.toNat_lt _

end Cert.Polar

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Agreement
public import proofs.«01_k».proof.Proof.Matrix
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Polar.pre_facts,
    fun m ρ _ => Cert.Kernel.Gen.frame m ρ,
    fun m ρ _ => Cert.KernelIdeal.Gen.frame m ρ,
    fun m ρ _ => Cert.KernelIdeal.Gen.frame m ρ,
    fun m ρ _ => Cert.Polar.reference_frame m ρ,
    fun m ρ _ => Cert.Polar.reference_frame m ρ,
    trivial,
    haveI := Cert.Polar.pre_facts
    Cert.Polar.agree Cert.Polar.matrix_eq⟩

end Cert.Proof

end
